-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 512]⟩ ⟨2, ![1024, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S256x512 : Shape := ⟨2, ![256, 512]⟩
abbrev S1024x128 : Shape := ⟨2, ![1024, 128]⟩
abbrev S3x256x512 : Shape := ⟨3, ![3, 256, 512]⟩
abbrev S3 : Shape := ⟨1, ![3]⟩
abbrev S_ : Shape := ⟨0, ![]⟩
abbrev S1x128 : Shape := ⟨2, ![1, 128]⟩
abbrev S1024x1024 : Shape := ⟨2, ![1024, 1024]⟩
abbrev S256x256 : Shape := ⟨2, ![256, 256]⟩
abbrev S256x128 : Shape := ⟨2, ![256, 128]⟩
abbrev S256x1 : Shape := ⟨2, ![256, 1]⟩
abbrev S1x256x512 : Shape := ⟨3, ![1, 256, 512]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x1, .i32⟩
  | .hbm, ⟨3, _⟩ => ⟨S4x256x512, .f32⟩
  | .hbm, ⟨4, _⟩ => ⟨S256x512, .f32⟩
  | .local _ .vmem, ⟨0, _⟩ => ⟨S1024x256, .f32⟩
  | .local _ .vmem, ⟨1, _⟩ => ⟨S1024x1, .i32⟩
  | .local _ .vmem, ⟨2, _⟩ => ⟨S4x256x512, .f32⟩
  | .local _ .vmem, ⟨3, _⟩ => ⟨S256x512, .f32⟩
  | .local _ .vmem, ⟨4, _⟩ => ⟨S1024x128, .f32⟩
  | .local _ .vmem, ⟨5, _⟩ => ⟨S3x256x512, .bf16⟩
  | .local _ .vmem, ⟨6, _⟩ => ⟨S3x256x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_34 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v72 : BitVec 32 := Scalar.addi v2 c1_i32_34
  let c4_i32_35 : BitVec 32 := 4#32
  let c0_i32_36 : BitVec 32 := 0#32
  let v73 : BitVec 1 := Scalar.cmpi .eq c4_i32_35 c0_i32_36
  let c1_i32_37 : BitVec 32 := 1#32
  let v74 : BitVec 32 := Scalar.select v73 c1_i32_37 c4_i32_35
  let v75 : BitVec 32 := Scalar.remsi v72 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let c256_i32 : BitVec 32 := 256#32
  let v83 : BitVec 32 := Scalar.muli v82 c256_i32
  let v84 : Index := Scalar.indexCast v83
  let c0_41 : Index := 0#32
  ![v84.toNat, 0]
def k0_off2 (d0 : Dev nD) (c1_i32_34 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v72 : BitVec 32 := Scalar.addi v2 c1_i32_34
  let c4_i32_35 : BitVec 32 := 4#32
  let c0_i32_36 : BitVec 32 := 0#32
  let v73 : BitVec 1 := Scalar.cmpi .eq c4_i32_35 c0_i32_36
  let c1_i32_37 : BitVec 32 := 1#32
  let v74 : BitVec 32 := Scalar.select v73 c1_i32_37 c4_i32_35
  let v75 : BitVec 32 := Scalar.remsi v72 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let c256_i32 : BitVec 32 := 256#32
  let v83 : BitVec 32 := Scalar.muli v82 c256_i32
  let v87 : Index := Scalar.indexCast v83
  let c0_42 : Index := 0#32
  ![v87.toNat, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v72 : BitVec 32 := Scalar.addi v2 c1_i32_34
  let c4_i32_35 : BitVec 32 := 4#32
  let c0_i32_36 : BitVec 32 := 0#32
  let v73 : BitVec 1 := Scalar.cmpi .eq c4_i32_35 c0_i32_36
  let c1_i32_37 : BitVec 32 := 1#32
  let v74 : BitVec 32 := Scalar.select v73 c1_i32_37 c4_i32_35
  let v75 : BitVec 32 := Scalar.remsi v72 v74
  let c0_i32_39 : BitVec 32 := 0#32
  let v77 : BitVec 1 := Scalar.cmpi .slt v75 c0_i32_39
  let c0_i32_40 : BitVec 32 := 0#32
  let v78 : BitVec 1 := Scalar.cmpi .slt v74 c0_i32_40
  let v79 : BitVec 1 := Scalar.xori v77 v78
  let c0_i32_38 : BitVec 32 := 0#32
  let v76 : BitVec 1 := Scalar.cmpi .ne v75 c0_i32_38
  let v80 : BitVec 1 := Scalar.andi v79 v76
  let v81 : BitVec 32 := Scalar.addi v75 v74
  let v82 : BitVec 32 := Scalar.select v80 v81 v75
  let c1_i32_64 : BitVec 32 := 1#32
  let v122 : BitVec 32 := Scalar.muli v82 c1_i32_64
  let v123 : BitVec 32 := Scalar.addi c0_i32_65 v122
  v123.toNat
def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_70 : BitVec 32 := 2#32
  let v132 : BitVec 32 := Scalar.addi v2 c2_i32_70
  let c4_i32_71 : BitVec 32 := 4#32
  let c0_i32_72 : BitVec 32 := 0#32
  let v133 : BitVec 1 := Scalar.cmpi .eq c4_i32_71 c0_i32_72
  let c1_i32_73 : BitVec 32 := 1#32
  let v134 : BitVec 32 := Scalar.select v133 c1_i32_73 c4_i32_71
  let v135 : BitVec 32 := Scalar.remsi v132 v134
  let c0_i32_75 : BitVec 32 := 0#32
  let v137 : BitVec 1 := Scalar.cmpi .slt v135 c0_i32_75
  let c0_i32_76 : BitVec 32 := 0#32
  let v138 : BitVec 1 := Scalar.cmpi .slt v134 c0_i32_76
  let v139 : BitVec 1 := Scalar.xori v137 v138
  let c0_i32_74 : BitVec 32 := 0#32
  let v136 : BitVec 1 := Scalar.cmpi .ne v135 c0_i32_74
  let v140 : BitVec 1 := Scalar.andi v139 v136
  let v141 : BitVec 32 := Scalar.addi v135 v134
  let v142 : BitVec 32 := Scalar.select v140 v141 v135
  let c1_i32_104 : BitVec 32 := 1#32
  let v182 : BitVec 32 := Scalar.muli v142 c1_i32_104
  let v183 : BitVec 32 := Scalar.addi c0_i32_105 v182
  v183.toNat
def k0_dev6 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_110 : BitVec 32 := 3#32
  let v192 : BitVec 32 := Scalar.addi v2 c3_i32_110
  let c4_i32_111 : BitVec 32 := 4#32
  let c0_i32_112 : BitVec 32 := 0#32
  let v193 : BitVec 1 := Scalar.cmpi .eq c4_i32_111 c0_i32_112
  let c1_i32_113 : BitVec 32 := 1#32
  let v194 : BitVec 32 := Scalar.select v193 c1_i32_113 c4_i32_111
  let v195 : BitVec 32 := Scalar.remsi v192 v194
  let c0_i32_115 : BitVec 32 := 0#32
  let v197 : BitVec 1 := Scalar.cmpi .slt v195 c0_i32_115
  let c0_i32_116 : BitVec 32 := 0#32
  let v198 : BitVec 1 := Scalar.cmpi .slt v194 c0_i32_116
  let v199 : BitVec 1 := Scalar.xori v197 v198
  let c0_i32_114 : BitVec 32 := 0#32
  let v196 : BitVec 1 := Scalar.cmpi .ne v195 c0_i32_114
  let v200 : BitVec 1 := Scalar.andi v199 v196
  let v201 : BitVec 32 := Scalar.addi v195 v194
  let v202 : BitVec 32 := Scalar.select v200 v201 v195
  let c1_i32_144 : BitVec 32 := 1#32
  let v242 : BitVec 32 := Scalar.muli v202 c1_i32_144
  let v243 : BitVec 32 := Scalar.addi c0_i32_145 v242
  v243.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_150 : BitVec 32 := 256#32
  let v252 : BitVec 32 := Scalar.muli v2 c256_i32_150
  let v253 : Index := Scalar.indexCast v252
  let c0_151 : Index := 0#32
  ![v253.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_150 : BitVec 32 := 256#32
  let v252 : BitVec 32 := Scalar.muli v2 c256_i32_150
  let v256 : Index := Scalar.indexCast v252
  let c0_152 : Index := 0#32
  ![v256.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x256 : Shape := ⟨2, ![1024, 256]⟩
abbrev S256x16 : Shape := ⟨2, ![256, 16]⟩
abbrev S1024x1 : Shape := ⟨2, ![1024, 1]⟩
abbrev S16x256x512 : Shape := ⟨3, ![16, 256, 512]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S16 : Shape := ⟨1, ![16]⟩
abbrev S1x16 : Shape := ⟨2, ![1, 16]⟩
abbrev S1024x16 : Shape := ⟨2, ![1024, 16]⟩
abbrev S16x512x1024 : Shape := ⟨3, ![16, 512, 1024]⟩
abbrev S16x1024x512 : Shape := ⟨3, ![16, 1024, 512]⟩
abbrev S16x1024 : Shape := ⟨2, ![16, 1024]⟩
abbrev S16x1024x1 : Shape := ⟨3, ![16, 1024, 1]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x1, .i32⟩
  | .hbm, ⟨3, _⟩ => ⟨S16x256x512, .f32⟩
  | .hbm, ⟨4, _⟩ => ⟨S1024, .i32⟩
  | .hbm, ⟨5, _⟩ => ⟨S1x1024, .i32⟩
  | .hbm, ⟨6, _⟩ => ⟨S1024x1024, .i32⟩
  | .hbm, ⟨7, _⟩ => ⟨S1024x1024, .i32⟩
  | .hbm, ⟨8, _⟩ => ⟨S1024x1024, .i1⟩
  | .hbm, ⟨9, _⟩ => ⟨S1x1024, .i32⟩
  | .hbm, ⟨10, _⟩ => ⟨S1024x1, .i32⟩
  | .hbm, ⟨11, _⟩ => ⟨S1024x1024, .i32⟩
  | .hbm, ⟨12, _⟩ => ⟨S1024x1024, .i32⟩
  | .hbm, ⟨13, _⟩ => ⟨S1024x1024, .i1⟩
  | .hbm, ⟨14, _⟩ => ⟨S1024x1024, .i1⟩
  | .hbm, ⟨15, _⟩ => ⟨S1024x1024, .i32⟩
  | .hbm, ⟨16, _⟩ => ⟨S_, .i32⟩
  | .hbm, ⟨17, _⟩ => ⟨S1024, .i32⟩
  | .hbm, ⟨18, _⟩ => ⟨S16, .i32⟩
  | .hbm, ⟨19, _⟩ => ⟨S1x16, .i32⟩
  | .hbm, ⟨20, _⟩ => ⟨S1024x16, .i32⟩
  | .hbm, ⟨21, _⟩ => ⟨S1024x16, .i32⟩
  | .hbm, ⟨22, _⟩ => ⟨S1024x16, .i1⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S1024x1, .i1⟩
  | .hbm, ⟨27, _⟩ => ⟨S1024x16, .i1⟩
  | .hbm, ⟨28, _⟩ => ⟨S1024x16, .i1⟩
  | .hbm, ⟨29, _⟩ => ⟨S16x512x1024, .f32⟩
  | .hbm, ⟨30, _⟩ => ⟨S16x1024x512, .f32⟩
  | .hbm, ⟨31, _⟩ => ⟨S16x1024, .i1⟩
  | .hbm, ⟨32, _⟩ => ⟨S16x1024x1, .i1⟩
  | .hbm, ⟨33, _⟩ => ⟨S_, .f32⟩
  | .hbm, ⟨34, _⟩ => ⟨S_, .f32⟩
  | .hbm, ⟨35, _⟩ => ⟨S16x1024x512, .i1⟩
  | .hbm, ⟨36, _⟩ => ⟨S16x1024x512, .f32⟩
  | .hbm, ⟨37, _⟩ => ⟨S16x1024x512, .f32⟩
  | .hbm, ⟨38, _⟩ => ⟨S_, .f32⟩
  | .hbm, ⟨39, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.Protocol.lean ====
/-
The protocol of the four-device expert kernel: which device addresses which, the slots of the two exchange buffers,
what every semaphore's completion hands over, and what each device owes.

Each device computes, for every row block, the part of the result its own four experts contribute. The part for its own
block stays; the part for the device `j + 1` places further round goes out from slot `j` of its send buffer, into slot
`back j` of that device's landing buffer. Before any transfer every device tells the three others that it has arrived
and waits to have been told by the three.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Experts

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, duties named by `Fin 3` -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def init : MemSt nD τ sig (Elt F) := ⟨m, fun _ => 0, ρ⟩

/-! ## Who addresses whom -/

/-- The device `j + 1` places after `c` around the four. -/
def nbr (c : Dev nD) (j : Fin 3) : Dev nD := ⟨(c.val + j.val + 1) % 4, Nat.mod_lt _ (by decide)⟩
/-- Seen from `nbr c j`, device `c` is the neighbour numbered `back j`. -/
def back (j : Fin 3) : Fin 3 := ⟨2 - j.val, by omega⟩

theorem nbr_back : ∀ (c : Dev nD) (j : Fin 3), nbr (nbr c j) (back j) = c := by decide
theorem nbr_back' : ∀ (c : Dev nD) (j : Fin 3), nbr (nbr c (back j)) j = c := by decide
theorem back_back : ∀ j : Fin 3, back (back j) = j := by decide

/-- The pairs (device, neighbour number), each sent to the same pair seen from the other end. -/
def flip : Dev nD × Fin 3 ≃ Dev nD × Fin 3 where
  toFun p := (nbr p.1 p.2, back p.2)
  invFun p := (nbr p.1 p.2, back p.2)
  left_inv p := Prod.ext (nbr_back p.1 p.2) (back_back p.2)
  right_inv p := Prod.ext (nbr_back p.1 p.2) (back_back p.2)

theorem dev1_eq : ∀ c : Dev nD, (⟨k0_dev1 c, k0_dev1_lt c⟩ : Dev nD) = nbr c 0 := by decide +kernel
theorem dev2_eq : ∀ c : Dev nD, (⟨k0_dev2 c, k0_dev2_lt c⟩ : Dev nD) = nbr c 1 := by decide +kernel
theorem dev3_eq : ∀ c : Dev nD, (⟨k0_dev3 c, k0_dev3_lt c⟩ : Dev nD) = nbr c 2 := by decide +kernel
theorem dev4_eq : ∀ c : Dev nD, (⟨k0_dev4 c, k0_dev4_lt c⟩ : Dev nD) = nbr c 0 := by decide +kernel
theorem dev5_eq : ∀ c : Dev nD, (⟨k0_dev5 c, k0_dev5_lt c⟩ : Dev nD) = nbr c 1 := by decide +kernel
theorem dev6_eq : ∀ c : Dev nD, (⟨k0_dev6 c, k0_dev6_lt c⟩ : Dev nD) = nbr c 2 := by decide +kernel

/-- The row block a device loads for its neighbour `j` starts at row `256 * nbr c j`. -/
theorem off1_0 : ∀ c : Dev nD, k0_off1 c 1#32 = ![256 * (nbr c 0).val, 0] := by decide +kernel
theorem off1_1 : ∀ c : Dev nD, k0_off1 c 2#32 = ![256 * (nbr c 1).val, 0] := by decide +kernel
theorem off1_2 : ∀ c : Dev nD, k0_off1 c 3#32 = ![256 * (nbr c 2).val, 0] := by decide +kernel
theorem off2_0 : ∀ c : Dev nD, k0_off2 c 1#32 = ![256 * (nbr c 0).val, 0] := by decide +kernel
theorem off2_1 : ∀ c : Dev nD, k0_off2 c 2#32 = ![256 * (nbr c 1).val, 0] := by decide +kernel
theorem off2_2 : ∀ c : Dev nD, k0_off2 c 3#32 = ![256 * (nbr c 2).val, 0] := by decide +kernel

/-! ## Buffers, slots, semaphores -/

abbrev xM : Memref sig .tc .vmem S1024x256 .f32 := Memref.whole cc0_stg0_0
abbrev rM : Memref sig .tc .vmem S1024x1 .i32 := Memref.whole cc0_stg1_0
abbrev wM : Memref sig .tc .vmem S4x256x512 .f32 := Memref.whole cc0_stg2_0
abbrev oM : Memref sig .tc .vmem S256x512 .f32 := Memref.whole cc0_stg3_0
abbrev kM : Memref sig .tc .vmem S1024x128 .f32 := Memref.whole cc0_scratch0
abbrev sM : Memref sig .tc .vmem S3x256x512 .bf16 := Memref.whole cc0_scratch1
abbrev lM : Memref sig .tc .vmem S3x256x512 .bf16 := Memref.whole cc0_scratch2

theorem slot_inb : ∀ j : Fin 3, ∀ a, (![j.val, 0, 0] : Fin 3 → Nat) a + S1x256x512.size a ≤ S3x256x512.size a := by decide
/-- Slot `j` of a three-slot buffer, as a rectangle -/
abbrev slotR (j : Fin 3) : Rect S3x256x512 := Rect.unit (s := S3x256x512) ![j.val, 0, 0] S1x256x512.size (slot_inb j)
/-- and as the memref a transfer names. -/
abbrev slot (M : Memref sig .tc .vmem S3x256x512 .bf16) (j : Fin 3) : Memref sig .tc .vmem S256x512 .bf16 :=
  (M.slice (slotR j) (fun _ => rfl)).squeeze S256x512 squeezes_S1x256x512_S256x512

/-- The runtime's barrier semaphore; the three send and the three landing semaphores. -/
abbrev barS : Sem sig := (SemArray.scalar (sig.barrier 0 rfl) : Sems sig S_).sem
def sendS (j : Fin 3) : DmaSem sig := (⟨4 + j.val, by have := j.isLt; omega⟩ : Fin 10)
def landS (j : Fin 3) : DmaSem sig := (⟨7 + j.val, by have := j.isLt; omega⟩ : Fin 10)

abbrev barCell (c : Dev nD) : GSem nD τ sig := ((c : Thread nD τ), .reg barS)
abbrev sendCell (c : Dev nD) (j : Fin 3) : GSem nD τ sig := ((c : Thread nD τ), .dma (sendS j))
abbrev landCell (c : Dev nD) (j : Fin 3) : GSem nD τ sig := ((c : Thread nD τ), .dma (landS j))

/-- The kernel's own semaphores, sends then landings; -/
abbrev osem (k : Fin 6) : SemLoc sig := .dma (⟨4 + k.val, by have := k.isLt; omega⟩ : Fin 10)
/-- with the barrier semaphore before them, all seven. -/
abbrev csem (k : Fin 7) : SemLoc sig := match k with
  | 0 => .reg barS
  | 1 => .dma (sendS 0) | 2 => .dma (sendS 1) | 3 => .dma (sendS 2)
  | 4 => .dma (landS 0) | 5 => .dma (landS 1) | 6 => .dma (landS 2)
abbrev kcell (ck : Dev nD × Fin 7) : GSem nD τ sig := ((ck.1 : Thread nD τ), csem ck.2)

def kS (j : Fin 3) : Fin 7 := ⟨1 + j.val, by omega⟩
def kL (j : Fin 3) : Fin 7 := ⟨4 + j.val, by omega⟩
theorem kcell_send (c : Dev nD) (j : Fin 3) : kcell (c, kS j) = sendCell c j := by fin_cases j <;> rfl
theorem kcell_land (c : Dev nD) (j : Fin 3) : kcell (c, kL j) = landCell c j := by fin_cases j <;> rfl

/-- The credit one slot's transfer completes with. -/
abbrev N : ℕ := (slot lM 0).view.dmaCredit
theorem N_pos : 0 < N := View.dmaCredit_pos _ (by decide)

/-! ## Contents -/

/-- The three staged inputs as device `c` holds them. -/
def xIn (c : Dev nD) : (cc0_stg0_0 : Ref sig .tc).ty.Contents (Elt F) :=
  (win0_0.blk (0 : Fin 1)).view.read (Elt F) ((init m ρ).mem ((c : Thread nD τ).loc main_arg0))
def rIn (c : Dev nD) : (cc0_stg1_0 : Ref sig .tc).ty.Contents (Elt F) :=
  (win0_1.blk (0 : Fin 1)).view.read (Elt F) ((init m ρ).mem ((c : Thread nD τ).loc main_arg2))
def wIn (c : Dev nD) : (cc0_stg2_0 : Ref sig .tc).ty.Contents (Elt F) :=
  (win0_2.blk (0 : Fin 1)).view.read (Elt F) ((init m ρ).mem ((c : Thread nD τ).loc main_arg3))

/-- Which row the device keeps for which of its experts: the mask it stores before its products. -/
def keep (c : Dev nD) : (cc0_scratch0 : Ref sig .tc).ty.Contents (Elt F) :=
  k0_pay2 (Scalar.remsi (Scalar.divsi (Dev.word c) 1#32) 4#32) (rIn m ρ c)

theorem x_inb : ∀ d : Dev nD, ∀ a, (![256 * d.val, 0] : Fin 2 → Nat) a + S256x256.size a ≤ S1024x256.size a := by decide
theorem k_inb : ∀ d : Dev nD, ∀ a, (![256 * d.val, 0] : Fin 2 → Nat) a + S256x128.size a ≤ S1024x128.size a := by decide
theorem w_inb : ∀ e : Fin 4, ∀ a, (![e.val, 0, 0] : Fin 3 → Nat) a + S1x256x512.size a ≤ S4x256x512.size a := by decide

/-- Row block `d` of device `c`'s copy of the tokens, of its mask, and expert `e` of its weights, as loads read them. -/
def xAt (c d : Dev nD) : Vec F S256x256 .f32 :=
  (xM : Memref sig .tc .vmem S1024x256 .f32).view.readAt (Elt F) (Rect.unit (s := S1024x256) ![256 * d.val, 0] S256x256.size (x_inb d)).toLoadRect (xIn m ρ c)
def kAt (c d : Dev nD) : Vec F S256x128 .f32 :=
  (kM : Memref sig .tc .vmem S1024x128 .f32).view.readAt (Elt F) (Rect.unit (s := S1024x128) ![256 * d.val, 0] S256x128.size (k_inb d)).toLoadRect (keep m ρ c)
def wAt (c : Dev nD) (e : Fin 4) : Vec F S1x256x512 .f32 :=
  (wM : Memref sig .tc .vmem S4x256x512 .f32).view.readAt (Elt F) (Rect.unit (s := S4x256x512) ![e.val, 0, 0] S1x256x512.size (w_inb e)).toLoadRect (wIn m ρ c)

/-- The part of row block `d` device `c`'s experts contribute, rounded for the exchange; -/
def partAt (c d : Dev nD) : FVec F S256x512 .bf16 :=
  k0_pay8 (xAt m ρ c d) (kAt m ρ c d) (wAt m ρ c 0) (wAt m ρ c 1) (wAt m ρ c 2) (wAt m ρ c 3)
/-- what `c` sends its neighbour `j`; -/
def sent (c : Dev nD) (j : Fin 3) : FVec F S256x512 .bf16 := partAt m ρ c (nbr c j)
/-- what arrives in `c`'s landing slot `j`, from its neighbour `j`: the part of `c`'s own row block; -/
def landed (c : Dev nD) (j : Fin 3) : FVec F S256x512 .bf16 := partAt m ρ (nbr c j) c
/-- its own part of its own row block, unrounded. -/
def own (c : Dev nD) : FVec F S256x512 .f32 :=
  k0_pay18 (k0_pay15 (xAt m ρ c c) (kAt m ρ c c) (wAt m ρ c 0) (wAt m ρ c 1) (wAt m ρ c 2)) (k0_pay16 (xAt m ρ c c) (kAt m ρ c c))
    (k0_pay17 (wAt m ρ c 3)) (constant S256x512 .f32 0x00000000#32)
/-- Device `c`'s block of the result: its own part and the three that landed. -/
def outAt (c : Dev nD) : (cc0_stg3_0 : Ref sig .tc).ty.Contents (Elt F) :=
  k0_pay1 (k0_pay19 (own m ρ c) (k0_pay9 (landed m ρ c 0))) (k0_pay20 (k0_pay9 (landed m ρ c 1))) (k0_pay9 (landed m ρ c 2))

/-- What `c` sends its neighbour is what lands there. -/
theorem sent_landed (c : Dev nD) (j : Fin 3) : sent m ρ c j = landed m ρ (nbr c j) (back j) := by
  unfold sent landed; rw [nbr_back]

/-! ## Holding a slot -/

/-- Slot `j` of a three-slot buffer held whole at `f`; -/
def slotPts (M : Memref sig .tc .vmem S3x256x512 .bf16) (c : Dev nD) (j : Fin 3) (f : Buf (Elt F) ((slot M j).view.loc (c : Thread nD τ))) : sProp 𝕄 :=
  (slot M j).view.loc (c : Thread nD τ) ↦[(slot M j).view.set]{fullShare} f
/-- held at contents a transfer from it reads as `p`. -/
def slotHas (M : Memref sig .tc .vmem S3x256x512 .bf16) (c : Dev nD) (j : Fin 3) (p : FVec F S256x512 .bf16) : sProp 𝕄 :=
  iprop(∃ f, ⌜(slot M j).view.read (Elt F) f = p⌝ ∗ slotPts M c j f)

instance slotPts_storable (M : Memref sig .tc .vmem S3x256x512 .bf16) (c : Dev nD) (j : Fin 3) (f) :
    BI.Storable (upEmb : UEmb _ 𝕄) (slotPts (F := F) M c j f) := by unfold slotPts; infer_instance
instance slotHas_storable (M : Memref sig .tc .vmem S3x256x512 .bf16) (c : Dev nD) (j : Fin 3) (p) :
    BI.Storable (upEmb : UEmb _ 𝕄) (slotHas (F := F) M c j p) := by unfold slotHas; infer_instance

/-! ## The schedule -/

/-- What neighbour `k`'s signal hands `c`: that neighbour's landing slot for `c`'s transfer, and that its landing
    semaphore there is at its first round. -/
def barPay (c : Dev nD) (k : Fin 3) : sProp 𝕄 :=
  iprop((∃ f, slotPts lM (nbr c k) (back k) f) ∗ reached ER (landCell (nbr c k) (back k)) 0)
/-- What a transfer semaphore's completion hands `c`: its send slot back, or its landing slot filled. -/
def xferPay (c : Dev nD) (q : Fin 10) : sProp 𝕄 :=
  if q.val < 7 then slotHas sM c ⟨(q.val - 4) % 3, Nat.mod_lt _ (by decide)⟩ (sent m ρ c ⟨(q.val - 4) % 3, Nat.mod_lt _ (by decide)⟩)
  else slotHas lM c ⟨(q.val - 7) % 3, Nat.mod_lt _ (by decide)⟩ (landed m ρ c ⟨(q.val - 7) % 3, Nat.mod_lt _ (by decide)⟩)

abbrev IsBar (g : GSem nD τ sig) : Prop := g.1.2 = .tc ∧ g.2 = .reg barS
abbrev IsXfer (g : GSem nD τ sig) : Prop := g.1.2 = .tc ∧ ∃ j : Fin 3, g.2 = .dma (sendS j) ∨ g.2 = .dma (landS j)

/-- One round: a barrier cell has a duty of one unit for each neighbour, a transfer cell the one duty of a slot's credit. -/
def plan : Rounds.Schedule (GSem nD τ sig) (Fin 3) 𝕄 where
  duties g r := if r = 0 ∧ IsBar g then Finset.univ else if r = 0 ∧ IsXfer g then {0} else ∅
  unitless _ := False
  amount g _ _ := match g.2 with | .reg _ => 1 | .dma _ => N
  payload g _ d := match g.2 with | .reg _ => barPay g.1.1 d | .dma q => xferPay m ρ g.1.1 q
  amount_pos g _ _ _ := by
    cases g.2 with
    | reg _ => exact Nat.one_pos
    | dma _ => exact N_pos

instance plan_payload_storable (g : GSem nD τ sig) (r : ℕ) (d : Fin 3) :
    BI.Storable (upEmb : UEmb _ 𝕄) ((plan (F := F) m ρ).payload g r d) := by
  obtain ⟨t, sm⟩ := g
  cases sm with
  | reg s => show BI.Storable upEmb (barPay t.1 d); unfold barPay; infer_instance
  | dma q => show BI.Storable upEmb (xferPay m ρ t.1 q); unfold xferPay; split <;> infer_instance

section Sched
variable (c : Dev nD) (j d : Fin 3)

theorem not_bar_dma (q : DmaSem sig) : ¬ IsBar ((c : Thread nD τ), .dma q) := fun h => by cases h.2
theorem duties_bar : (plan (F := F) m ρ).duties (barCell c) 0 = Finset.univ := by dsimp only [plan]; exact if_pos ⟨rfl, rfl, rfl⟩
theorem duties_send : (plan (F := F) m ρ).duties (sendCell c j) 0 = {0} := by
  dsimp only [plan]; rw [if_neg fun h => not_bar_dma c _ h.2]; exact if_pos ⟨rfl, rfl, j, .inl rfl⟩
theorem duties_land : (plan (F := F) m ρ).duties (landCell c j) 0 = {0} := by
  dsimp only [plan]; rw [if_neg fun h => not_bar_dma c _ h.2]; exact if_pos ⟨rfl, rfl, j, .inr rfl⟩
theorem duties_later (g : GSem nD τ sig) : ∀ r, 1 ≤ r → (plan (F := F) m ρ).duties g r = ∅ :=
  fun r hr => (if_neg fun h => by omega).trans (if_neg fun h => by omega)

theorem amount_bar : (plan (F := F) m ρ).amount (barCell c) 0 d = 1 := rfl
theorem amount_send : (plan (F := F) m ρ).amount (sendCell c j) 0 d = N := rfl
theorem amount_land : (plan (F := F) m ρ).amount (landCell c j) 0 d = N := rfl

theorem expect_bar : (plan (F := F) m ρ).expect (barCell c) 0 = 3 := by
  unfold Schedule.expect Schedule.amountOf
  rw [duties_bar]; rfl
theorem expect_send : (plan (F := F) m ρ).expect (sendCell c j) 0 = N := by
  unfold Schedule.expect Schedule.amountOf; rw [duties_send, Finset.sum_singleton]; rfl
theorem expect_land : (plan (F := F) m ρ).expect (landCell c j) 0 = N := by
  unfold Schedule.expect Schedule.amountOf; rw [duties_land, Finset.sum_singleton]; rfl

theorem payload_bar : (plan (F := F) m ρ).payload (barCell c) 0 d = barPay c d := rfl
theorem payload_send : (plan (F := F) m ρ).payload (sendCell c j) 0 d = slotHas sM c j (sent m ρ c j) := by
  show xferPay m ρ c (sendS j) = _; fin_cases j <;> rfl
theorem payload_land : (plan (F := F) m ρ).payload (landCell c j) 0 d = slotHas lM c j (landed m ρ c j) := by
  show xferPay m ρ c (landS j) = _; fin_cases j <;> rfl

theorem conj3 (Φ : Fin 3 → sProp 𝕄) : bigSep Finset.univ Φ = iprop(Φ 0 ∗ Φ 1 ∗ Φ 2) :=
  bigSep_univ_eq_bigSepL [0, 1, 2] (by decide) (by decide) Φ

/-- All a barrier cell's round hands over: the three neighbours' landing slots. -/
theorem rest_bar : bigSep ((plan (F := F) m ρ).duties (barCell c) 0 \ ∅) (fun d => (plan (F := F) m ρ).payload (barCell c) 0 d)
    = iprop(barPay c 0 ∗ barPay c 1 ∗ barPay c 2) := by
  rw [Finset.sdiff_empty, duties_bar, conj3]; rfl
theorem rest_send : bigSep ((plan (F := F) m ρ).duties (sendCell c j) 0 \ ∅) (fun d => (plan (F := F) m ρ).payload (sendCell c j) 0 d)
    = slotHas sM c j (sent m ρ c j) := by
  rw [Finset.sdiff_empty, duties_send, bigSep_singleton, payload_send]
theorem rest_land : bigSep ((plan (F := F) m ρ).duties (landCell c j) 0 \ ∅) (fun d => (plan (F := F) m ρ).payload (landCell c j) 0 d)
    = slotHas lM c j (landed m ρ c j) := by
  rw [Finset.sdiff_empty, duties_land, bigSep_singleton, payload_land]

end Sched

/-! ## What each device owes at launch, and the levels -/

/-- The credit of `c`'s transfer to its neighbour `j`, and the unit its signal there pays. -/
abbrev tallyX (c : Dev nD) (j : Fin 3) : CellTallies nD τ sig Unit := tallyAt (landCell (nbr c j) (back j)) () N
abbrev tallyB (c : Dev nD) (j : Fin 3) : CellTallies nD τ sig Unit := tallyAt (barCell (nbr c j)) () 1

/-- What is still owed with the transfers from `j` on, and before them the signals from `j` on, outstanding. -/
def owe5 (c : Dev nD) : CellTallies nD τ sig Unit := 0 + tallyX c 2
def owe4 (c : Dev nD) : CellTallies nD τ sig Unit := owe5 c + tallyX c 1
def owe3 (c : Dev nD) : CellTallies nD τ sig Unit := owe4 c + tallyX c 0
def owe2 (c : Dev nD) : CellTallies nD τ sig Unit := owe3 c + tallyB c 2
def owe1 (c : Dev nD) : CellTallies nD τ sig Unit := owe2 c + tallyB c 1
def owe0 (c : Dev nD) : CellTallies nD τ sig Unit := owe1 c + tallyB c 0

def L (g : GSem nD τ sig) : Finset Unit := if g.1.2 = .tc then {()} else ∅
/-- Barrier cells at 1, landing cells at 2, everything else at 0. -/
def lv (g : GSem nD τ sig) (_ : Unit) : ℕ := match g.2 with | .reg _ => 1 | .dma q => if 7 ≤ (show Fin 10 from q).val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_land (c : Dev nD) (j : Fin 3) : lv (landCell c j) () = 2 := if_pos (by show 7 ≤ 7 + j.val; omega)

theorem tally_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem add_pos {O O' : CellTallies nD τ sig Unit} {g : GSem nD τ sig} {u : Unit} (h : 0 < (O + O') g u) : 0 < O g u ∨ 0 < O' g u := by
  rw [Pi.add_apply, Finsupp.add_apply] at h; omega

theorem owe3_pos {c : Dev nD} {g : GSem nD τ sig} {u : Unit} (h : 0 < owe3 c g u) : ∃ j, g = landCell (nbr c j) (back j) := by
  unfold owe3 owe4 owe5 at h
  rcases add_pos h with h | h
  · rcases add_pos h with h | h
    · rcases add_pos h with h | h
      · exact absurd h (Nat.lt_irrefl 0)
      · exact ⟨2, tally_pos h⟩
    · exact ⟨1, tally_pos h⟩
  · exact ⟨0, tally_pos h⟩

theorem owe0_pos {c : Dev nD} {g : GSem nD τ sig} {u : Unit} (h : 0 < owe0 c g u) :
    (∃ j, g = landCell (nbr c j) (back j)) ∨ ∃ j, g = barCell (nbr c j) := by
  unfold owe0 owe1 owe2 at h
  rcases add_pos h with h | h
  · rcases add_pos h with h | h
    · rcases add_pos h with h | h
      · exact .inl (owe3_pos h)
      · exact .inr ⟨2, tally_pos h⟩
    · exact .inr ⟨1, tally_pos h⟩
  · exact .inr ⟨0, tally_pos h⟩

/-- The pipeline's staging waits are at level 0, below everything owed. -/
theorem mayWait_stage (c : Dev nD) (q : DmaSem sig) (hq : lv ((c : Thread nD τ), .dma q) () = 0) (O : CellTallies nD τ sig Unit) (hO : O = owe0 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owe0_pos hg with ⟨j, rfl⟩ | ⟨j, rfl⟩ <;> exact Finset.mem_singleton_self _)
      (fun p hp => by rw [Finset.mem_singleton.mp hp]; exact le_of_eq hq)
      (fun g u hg => by
        rcases owe0_pos hg with ⟨j, rfl⟩ | ⟨j, rfl⟩
        · exact (lv_land _ _).symm ▸ (by decide)
        · exact Nat.one_pos)
  · rw [MayWait_zero]; iintro -; iempintro

/-- At its barrier wait a device owes landing credits only. -/
theorem mayWait_bar (c : Dev nD) : (levAts L lv : sProp 𝕄) ⊢ MayWait (c : Thread nD τ) (.reg barS) () (owe3 c) :=
  MayOwe.of_cut (L := L) (lev := lv) 1 (fun p hp => by rw [Finset.mem_singleton.mp hp, L_tc]; exact Finset.mem_singleton_self _)
    (fun g u hg => by obtain ⟨j, rfl⟩ := owe3_pos hg; exact Finset.mem_singleton_self _)
    (fun p hp => by rw [Finset.mem_singleton.mp hp]; exact le_refl _)
    (fun g u hg => by obtain ⟨j, rfl⟩ := owe3_pos hg; exact (lv_land _ _).symm ▸ (by decide))

end Cert.Experts

end
-- ==== Proof.Steps.lean ====
/-
The steps of one device's run: the exchange buffers held slot by slot, loads and stores of a slot, the arrival signal, a
transfer to a neighbour, and the waits that close the transfer semaphores.
-/
module

public import proofs.«01_k».proof.Proof.Protocol

@[expose] public section

noncomputable section

namespace Cert.Experts

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## A three-slot buffer as its slots -/

theorem slot_set (M : Memref sig .tc .vmem S3x256x512 .bf16) (j : Fin 3) : (slot M j).view.set = (slotR j).set.map M.view.emb :=
  (View.set_reshape (v := M.view.slice (slotR j)) _).trans (View.set_slice (v := M.view) (slotR j))

theorem slot_disjoint (M : Memref sig .tc .vmem S3x256x512 .bf16) (i j : Fin 3) (h : i ≠ j) :
    Disjoint (slot M i).view.set (slot M j).view.set := by
  rw [slot_set, slot_set]
  refine (Finset.disjoint_map _).mpr (Rect.unit_disjoint 0 ?_)
  have : i.val ≠ j.val := fun e => h (Fin.ext e)
  show i.val + 1 ≤ j.val ∨ j.val + 1 ≤ i.val
  omega

theorem slot_cover (M : Memref sig .tc .vmem S3x256x512 .bf16) (hM : M.view.set = Finset.univ) :
    (Finset.univ.biUnion fun j : Fin 3 => ((slot M j).view.set : Finset M.view.ty.Idx)) = (Finset.univ : Finset M.view.ty.Idx) := by
  refine Finset.eq_univ_iff_forall.mpr fun y => ?_
  have hy : y ∈ M.view.set := hM ▸ Finset.mem_univ y
  obtain ⟨i, -, rfl⟩ := Finset.mem_map.mp hy
  have hi : (i 0 : Nat) < 3 := (i 0).isLt
  refine Finset.mem_biUnion.mpr ⟨⟨i 0, hi⟩, Finset.mem_univ _, ?_⟩
  rw [slot_set]
  refine Finset.mem_map_of_mem _ (Rect.mem_set_unit.mpr fun a => ?_)
  match a with
  | ⟨0, _⟩ => exact ⟨le_refl _, Nat.lt_succ_self _⟩
  | ⟨1, h⟩ => exact ⟨Nat.zero_le _, Nat.lt_of_lt_of_eq (i ⟨1, h⟩).isLt (Nat.zero_add _).symm⟩
  | ⟨2, h⟩ => exact ⟨Nat.zero_le _, Nat.lt_of_lt_of_eq (i ⟨2, h⟩).isLt (Nat.zero_add _).symm⟩

/-- A three-slot buffer held whole is held slot by slot, -/
theorem slots_split (M : Memref sig .tc .vmem S3x256x512 .bf16) (hM : M.view.set = Finset.univ) (c : Dev nD)
    (f : Buf (Elt F) (M.view.loc (c : Thread nD τ))) :
    (M.view.loc (c : Thread nD τ) ↦{fullShare} f : sProp 𝕄) ⊢ iprop(slotPts M c 0 f ∗ slotPts M c 1 f ∗ slotPts M c 2 f) := by
  rw [Ring.pointsTo_blocks (ℓ := M.view.loc (c : Thread nD τ)) (fun j : Fin 3 => (slot M j).view.set) (slot_disjoint M) (slot_cover M hM) f, conj3]
  exact .rfl

/-- and its slots, each at some contents, are the buffer whole at some contents. -/
theorem slots_join (M : Memref sig .tc .vmem S3x256x512 .bf16) (hM : M.view.set = Finset.univ) (c : Dev nD)
    (p₀ p₁ p₂ : FVec F S256x512 .bf16) :
    iprop(slotHas M c 0 p₀ ∗ slotHas M c 1 p₁ ∗ slotHas M c 2 p₂)
      ⊢ (iprop(∃ f : Buf (Elt F) (M.view.loc (c : Thread nD τ)), M.view.loc (c : Thread nD τ) ↦{fullShare} f) : sProp 𝕄) := by
  unfold slotHas
  iintro ⟨⟨%f0, -, H0⟩, ⟨%f1, -, H1⟩, ⟨%f2, -, H2⟩⟩
  iapply (Ring.pointsTo_blocks_join_exists (ℓ := M.view.loc (c : Thread nD τ)) (fun j : Fin 3 => (slot M j).view.set) (slot_disjoint M) (slot_cover M hM) f0)
  rw [conj3]
  unfold slotPts
  isplitl [H0]; · iexists f0; iexact H0
  isplitl [H1]; · iexists f1; iexact H1
  iexists f2; iexact H2

/-- Re-indexing by row-major position and back changes nothing, -/
theorem cast_back {s t : Shape} {α : Type} (g : s.Idx → α) (h : t.numel = s.numel) (h' : t.ShapeCasts s) :
    shapeCast s (fun x => g (Shape.reshapeEquiv h x)) h' = g :=
  funext fun y => by
    show g (Shape.reshapeEquiv h (Shape.reshapeEquiv _ y)) = g y
    rw [Shape.reshapeEquiv_reshapeEquiv, Shape.reshapeEquiv_self]
/-- in either order. -/
theorem back_cast {s t : Shape} {α : Type} (p : t.Idx → α) (h : t.numel = s.numel) (h' : t.ShapeCasts s) :
    (fun x => shapeCast s p h' (Shape.reshapeEquiv h x)) = p :=
  funext fun x => by
    show p (Shape.reshapeEquiv _ (Shape.reshapeEquiv h x)) = p x
    rw [Shape.reshapeEquiv_reshapeEquiv, Shape.reshapeEquiv_self]

/-- Reading through a squeezed memref is reading through it, re-indexed. -/
theorem read_squeezed {s t : Shape} {e : EltTy} (M : Memref sig .tc .vmem s e) (h : s.Squeezes t) (f : M.view.ty.Contents (Elt F)) :
    (M.squeeze t h).view.read (Elt F) f = fun x => M.view.read (Elt F) f (Shape.reshapeEquiv h.numel_eq x) := rfl

/-- What a transfer from a slot reads is, with a unit axis in front, what a load of the slot reads. -/
theorem load_of_slot (M : Memref sig .tc .vmem S3x256x512 .bf16) (j : Fin 3) (f : M.view.ty.Contents (Elt F)) (p : FVec F S256x512 .bf16)
    (h : (slot M j).view.read (Elt F) f = p) : M.view.readAt (Elt F) (slotR j).toLoadRect f = k0_pay9 p := by
  subst h
  rw [View.readAt_rect]
  exact (cast_back ((M.view.slice (slotR j)).read (Elt F) f) (Shape.Squeezes.numel_eq squeezes_S1x256x512_S256x512) shapeCasts_S256x512_S1x256x512).symm

/-- After a store of `p` with a unit axis in front, a transfer from the slot reads `p`. -/
theorem slot_of_store (M : Memref sig .tc .vmem S3x256x512 .bf16) (j : Fin 3) (f : M.view.ty.Contents (Elt F)) (p : FVec F S256x512 .bf16) :
    (slot M j).view.read (Elt F) ((M.access (slotR j)).write (Elt F) f (k0_pay9 p) Finset.univ) = p := by
  refine (read_squeezed (M.slice (slotR j) fun _ => rfl) squeezes_S1x256x512_S256x512 _).trans ?_
  rw [show ((M.slice (slotR j) fun _ => rfl).view.read (Elt F) ((M.access (slotR j)).write (Elt F) f (k0_pay9 p) Finset.univ)) = k0_pay9 p from
    View.read_write_univ (v := M.access (slotR j)) f (k0_pay9 p)]
  exact back_cast p (Shape.Squeezes.numel_eq squeezes_S1x256x512_S256x512) shapeCasts_S256x512_S1x256x512

section Steps

variable (c : Dev nD)

/-- A load of a slot held at known contents. -/
theorem step_load {α : Type} {Q : α → sProp 𝕄} (M : Memref sig .tc .vmem S3x256x512 .bf16) (j : Fin 3) (p : FVec F S256x512 .bf16)
    {hl : M.view.LoadsAt (slotR j).toLoadRect} {k : ((slotR j).toLoadRect.shape.Idx → Elt F .bf16) → Prog (TpuEff nD τ sig (Elt F) Λ₀ .tc) α} :
    slotHas M c j p
      ⊢ iprop((slotHas M c j p -∗ wp frame (wpE (defs₀ (F := F)) 𝒱₀ (c : Thread nD τ) none) Set.univ (k (k0_pay9 p)) Q)
        -∗ wp frame (wpE (defs₀ (F := F)) 𝒱₀ (c : Thread nD τ) none) Set.univ (.op (.load M (slotR j).toLoadRect hl) k) Q) := by
  unfold slotHas slotPts
  iintro ⟨%f, %hf, H⟩ Hk
  iapply (wp_load 𝒱₀ (c : Thread nD τ) none Set.univ (m := M) (r := (slotR j).toLoadRect) (S := (slot M j).view.set) (f := f)
    (by rw [slot_set]; exact Finset.Subset.refl _)) $$ H
  iintro H
  rw [load_of_slot M j f p hf]
  iapply Hk
  iexists f
  isplitr; · ipureintro; exact hf
  iexact H

/-- A load of a slot held at any contents, its value not read. -/
theorem step_load_any {α : Type} {Q : α → sProp 𝕄} (M : Memref sig .tc .vmem S3x256x512 .bf16) (j : Fin 3) (f : Buf (Elt F) ((slot M j).view.loc (c : Thread nD τ)))
    {hl : M.view.LoadsAt (slotR j).toLoadRect} {k : ((slotR j).toLoadRect.shape.Idx → Elt F .bf16) → Prog (TpuEff nD τ sig (Elt F) Λ₀ .tc) α} :
    slotPts M c j f
      ⊢ iprop((∀ v, slotPts M c j f -∗ wp frame (wpE (defs₀ (F := F)) 𝒱₀ (c : Thread nD τ) none) Set.univ (k v) Q)
        -∗ wp frame (wpE (defs₀ (F := F)) 𝒱₀ (c : Thread nD τ) none) Set.univ (.op (.load M (slotR j).toLoadRect hl) k) Q) := by
  unfold slotPts
  iintro H Hk
  iapply (wp_load 𝒱₀ (c : Thread nD τ) none Set.univ (m := M) (r := (slotR j).toLoadRect) (S := (slot M j).view.set) (f := f)
    (by rw [slot_set]; exact Finset.Subset.refl _)) $$ H
  iintro H
  iapply Hk
  iexact H

/-- A store over a whole slot. -/
theorem step_store {α : Type} {Q : α → sProp 𝕄} (M : Memref sig .tc .vmem S3x256x512 .bf16) (j : Fin 3) (p : FVec F S256x512 .bf16) (f : Buf (Elt F) ((slot M j).view.loc (c : Thread nD τ)))
    {hx : (M.access (slotR j)).Stores Finset.univ} {hm : (Finset.univ : Finset (slotR j).shape.Idx) = Finset.univ ∨ ∀ a, (slotR j).stride a = 1}
    {k : PUnit → Prog (TpuEff nD τ sig (Elt F) Λ₀ .tc) α} :
    slotPts M c j f
      ⊢ iprop((slotHas M c j p -∗ wp frame (wpE (defs₀ (F := F)) 𝒱₀ (c : Thread nD τ) none) Set.univ (k ⟨⟩) Q)
        -∗ wp frame (wpE (defs₀ (F := F)) 𝒱₀ (c : Thread nD τ) none) Set.univ (.op (.store M (slotR j) (k0_pay9 p) Finset.univ hx hm) k) Q) := by
  unfold slotHas slotPts
  iintro H Hk
  iapply (wp_store 𝒱₀ (c : Thread nD τ) none Set.univ (m := M) (r := slotR j) (Mk := Finset.univ) (S := (slot M j).view.set) (f := f)
    (by rw [slot_set]; exact (View.set_slice _ _).subset)) $$ H
  iintro H
  iapply Hk
  iexists _
  isplitr; · ipureintro; exact slot_of_store M j f p
  iexact H

variable (K : Dev nD × Fin 7 → ℕ)

/-- The transfer of send slot `j` to neighbour `j`. -/
theorem step_send {α : Type} {Q : α → sProp 𝕄} (j : Fin 3) {n : Dev nD} (hn : n = nbr c j) {src dst : Memref sig .tc .vmem S256x512 .bf16} (hs : src = slot sM j) (hd : dst = slot lM (back j))
    {qs qr : DmaSem sig} (hqs : qs = sendS j) (hqr : qr = landS (back j))
    {hsc : (dst : Memref sig (Dev.tc n : Thread nD τ).2.kind .vmem S256x512 .bf16).view.ref.isScScratch = false}
    {hsrc : src.view.WordExact} {hdst : dst.view.WordExact}
    {hsem : DmaTarget.Typed .vmem (.dma qr) (.remote (Dev.tc n : Thread nD τ) (dst : Memref sig .tc .vmem S256x512 .bf16) (.dma qs) hsc)}
    {k : PUnit → Prog (TpuEff nD τ sig (Elt F) Λ₀ .tc) α}
    (O : CellTallies nD τ sig Unit) (W : Waits sig Unit) :
    iprop(cellInv ER (plan m ρ) (K (c, kS j)) (sendCell c j) ∗ cellInv ER (plan m ρ) (K (nbr c j, kL (back j))) (landCell (nbr c j) (back j))
        ∗ slotHas sM c j (sent m ρ c j) ∗ (∃ f, slotPts lM (nbr c j) (back j) f)
        ∗ owes (c : Thread nD τ) (O + tallyX c j) W
        ∗ dutyTok ER (sendCell c j) 0 0 ∗ reached ER (sendCell c j) 0
        ∗ dutyTok ER (landCell (nbr c j) (back j)) 0 0 ∗ reached ER (landCell (nbr c j) (back j)) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn hs hd hqs hqr
  unfold slotHas
  iintro ⟨#H1, #H2, ⟨%fs, %hfs, Hs⟩, ⟨%fd, Hd⟩, HO, Ht1, #Hr1, Ht2, #Hr2⟩
  unfold slotPts
  iapply (Rounds.wp_send_pointsTo 𝒱₀ ER (plan m ρ) (c : Thread nD τ) none (κ₁ := K (c, kS j)) (κ₂ := K (nbr c j, kL (back j)))
    (r₁ := 0) (r₂ := 0) (d₁ := 0) (d₂ := 0) (fs := fs) (fd := fd)
    (by rw [duties_send]; exact Finset.mem_singleton_self _) (by rw [duties_land]; exact Finset.mem_singleton_self _)
    () () N rfl (amount_send m ρ c j 0) (amount_land m ρ (nbr c j) (back j) 0) O rfl (W := W)
    (by rw [payload_send]; unfold slotHas slotPts
        iintro H; iexists fs; isplitr; · ipureintro; exact hfs
        iexact H)
    (by rw [payload_land]; unfold slotHas slotPts
        iintro H
        iexists ((slot lM (back j)).view.write (Elt F) fd ((slot sM j).view.read (Elt F) fs) Finset.univ)
        isplitr
        · ipureintro; rw [View.read_write_univ, hfs]; exact sent_landed m ρ c j
        iexact H)) $$ [Hs Hd HO Ht1 Ht2]
  isplitr; · iexact H1
  isplitr; · iexact H2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-- The wait for a transfer semaphore, owing nothing: what its round hands over, and the cell closed at zero. -/
theorem step_wait {α : Type} {Q : α → sProp 𝕄} {q : DmaSem sig} {src dst : Memref sig .tc .vmem S256x512 .bf16} {hsrc : src.view.WordExact} {hdst : dst.view.WordExact}
    (κ : ℕ) (hN : dst.view.dmaCredit = N) (he : (plan (F := F) m ρ).expect ((c : Thread nD τ), .dma q) 0 = N) (P : sProp 𝕄)
    (hP : bigSep ((plan (F := F) m ρ).duties ((c : Thread nD τ), .dma q) 0 \ ∅) (fun d => (plan (F := F) m ρ).payload ((c : Thread nD τ), .dma q) 0 d) = P)
    {k : PUnit → Prog (TpuEff nD τ sig (Elt F) Λ₀ .tc) α} :
    iprop(cellInv ER (plan m ρ) κ ((c : Thread nD τ), .dma q) ∗ cred (tallyAt ((c : Thread nD τ), .dma q) () N)
        ∗ (∃ W, owes (c : Thread nD τ) 0 W) ∗ atPos ER ((c : Thread nD τ), .dma q) 0 ∅ 0)
      ⊢ iprop((((∃ W, owes (c : Thread nD τ) 0 W) ∗ semVal ((c : Thread nD τ), .dma q) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hP
  iintro ⟨#HI, Hc, ⟨%W, HO⟩, Hat⟩ Hk
  iapply (Rounds.wp_wait_rest_token 𝒱₀ ER (plan m ρ) (c : Thread nD τ) none (κ := κ)
      (wpE_waitDma2_eq 𝒱₀ (c : Thread nD τ) none Set.univ) (Set.mem_univ _) () (O := 0) (W := W) (R := 0) (m := 0) (T := ∅)
      (by rw [Nat.zero_add, he, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  imod (Rounds.cell_close ER (plan m ρ) (Set.mem_univ κ) (fun h => h) (R := 0 + 1) (duties_later m ρ ((c : Thread nD τ), .dma q))) $$ [Hat] with Hz
  · isplitr; · iexact HI
    iexact Hat
  iapply Hk
  isplitl [HO]; · iexists _; iexact HO
  isplitl [Hz]; · iexact Hz
  iexact Hpay

/-- The wait on a send semaphore returns the send slot; -/
theorem step_wait_send {α : Type} {Q : α → sProp 𝕄} (j : Fin 3) {q : DmaSem sig} (hq : q = sendS j) {src dst : Memref sig .tc .vmem S256x512 .bf16}
    {hsrc : src.view.WordExact} {hdst : dst.view.WordExact} (hN : dst.view.dmaCredit = N)
    {k : PUnit → Prog (TpuEff nD τ sig (Elt F) Λ₀ .tc) α} :
    iprop(cellInv ER (plan m ρ) (K (c, kS j)) (sendCell c j) ∗ cred (tallyAt (sendCell c j) () N)
        ∗ (∃ W, owes (c : Thread nD τ) 0 W) ∗ atPos ER (sendCell c j) 0 ∅ 0)
      ⊢ iprop((((∃ W, owes (c : Thread nD τ) 0 W) ∗ semVal (sendCell c j) 0 ∗ slotHas sM c j (sent m ρ c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  exact step_wait m ρ c (K (c, kS j)) hN (expect_send m ρ c j) _ (rest_send m ρ c j)

/-- on a landing semaphore, the landing slot filled by the neighbour. -/
theorem step_wait_land {α : Type} {Q : α → sProp 𝕄} (j : Fin 3) {q : DmaSem sig} (hq : q = landS j) {src dst : Memref sig .tc .vmem S256x512 .bf16}
    {hsrc : src.view.WordExact} {hdst : dst.view.WordExact} (hN : dst.view.dmaCredit = N)
    {k : PUnit → Prog (TpuEff nD τ sig (Elt F) Λ₀ .tc) α} :
    iprop(cellInv ER (plan m ρ) (K (c, kL j)) (landCell c j) ∗ cred (tallyAt (landCell c j) () N)
        ∗ (∃ W, owes (c : Thread nD τ) 0 W) ∗ atPos ER (landCell c j) 0 ∅ 0)
      ⊢ iprop((((∃ W, owes (c : Thread nD τ) 0 W) ∗ semVal (landCell c j) 0 ∗ slotHas lM c j (landed m ρ c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  exact step_wait m ρ c (K (c, kL j)) hN (expect_land m ρ c j) _ (rest_land m ρ c j)

/-- The arrival signal to neighbour `j`: it hands over the landing slot that neighbour will fill. -/
theorem step_signal {α : Type} {Q : α → sProp 𝕄} (j : Fin 3) {n : Dev nD} (hn : n = nbr c j)
    {k : PUnit → Prog (TpuEff nD τ sig (Elt F) Λ₀ .tc) α} (O : CellTallies nD τ sig Unit) (W : Waits sig Unit)
    (f : Buf (Elt F) ((slot lM j).view.loc (c : Thread nD τ))) :
    iprop(cellInv ER (plan m ρ) (K (nbr c j, 0)) (barCell (nbr c j)) ∗ owes (c : Thread nD τ) (O + tallyB c j) W
        ∗ dutyTok ER (barCell (nbr c j)) 0 (back j) ∗ slotPts lM c j f ∗ reached ER (landCell c j) 0 ∗ reached ER (barCell (nbr c j)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  iintro ⟨#HI, HO, Ht, Hs, #Hl, #Hr⟩
  iapply (Rounds.wp_signal 𝒱₀ ER (plan m ρ) (c : Thread nD τ) none (dst := (nbr c j : Thread nD τ)) (κ := K (nbr c j, 0))
      (d := back j) (by rw [duties_bar]; exact Finset.mem_univ _) (amount_bar m ρ (nbr c j) (back j)) () O rfl) $$ [HO Ht Hs]
  isplitr; · iexact HI
  isplitl [HO]; · iexact HO
  isplitl [Ht]; · iexact Ht
  isplitl [Hs]
  · rw [payload_bar]; unfold barPay; rw [nbr_back, back_back]
    isplitl [Hs]; · iexists f; iexact Hs
    iexact Hl
  iexact Hr

end Steps

end Cert.Experts

end
-- ==== Proof.Body.lean ====
/-
One device's run of the kernel body: from the ghost state the launch deals it, through the arrival signals, the mask,
the three partial products sent around, its own, the waits and the final sum, to its block of the result.
-/
module

public import proofs.«01_k».proof.Proof.Steps

@[expose] public section

noncomputable section

namespace Cert.Experts

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state a device starts from -/

section Ghost
variable (K : Dev nD × Fin 7 → ℕ) (c : Dev nD)

/-- For one neighbour: the invariants of the cells the exchange with it touches, the positions at the two own ones, the
    marks that all are at their first round, and the tokens of the three duties `c` pays. -/
def ghostJ (j : Fin 3) : sProp 𝕄 :=
  iprop((cellInv ER (plan m ρ) (K (c, kS j)) (sendCell c j) ∗ cellInv ER (plan m ρ) (K (c, kL j)) (landCell c j)
      ∗ cellInv ER (plan m ρ) (K (nbr c j, 0)) (barCell (nbr c j)) ∗ cellInv ER (plan m ρ) (K (nbr c j, kL (back j))) (landCell (nbr c j) (back j)))
    ∗ (reached ER (sendCell c j) 0 ∗ reached ER (landCell c j) 0 ∗ reached ER (barCell (nbr c j)) 0 ∗ reached ER (landCell (nbr c j) (back j)) 0)
    ∗ (atPos ER (sendCell c j) 0 ∅ 0 ∗ atPos ER (landCell c j) 0 ∅ 0)
    ∗ dutyTok ER (barCell (nbr c j)) 0 (back j) ∗ dutyTok ER (sendCell c j) 0 0 ∗ dutyTok ER (landCell (nbr c j) (back j)) 0 0)

/-- The barrier cell, and the three neighbours'. -/
def ghost : sProp 𝕄 :=
  iprop(cellInv ER (plan m ρ) (K (c, 0)) (barCell c) ∗ atPos ER (barCell c) 0 ∅ 0 ∗ ghostJ m ρ K c 0 ∗ ghostJ m ρ K c 1 ∗ ghostJ m ρ K c 2)

end Ghost

/-- The credits `c` starts with: its barrier's three units and its three landings. -/
def creds (c : Dev nD) : sProp 𝕄 :=
  iprop(cred (tallyAt (barCell c) () 3) ∗ cred (tallyAt (landCell c 0) () N) ∗ cred (tallyAt (landCell c 1) () N) ∗ cred (tallyAt (landCell c 2) () N))

/-- The kernel's three working buffers, each at some contents. -/
def work (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The transfer semaphores and the barrier semaphore at zero. -/
def zeros (c : Dev nD) : sProp 𝕄 :=
  iprop((semVal (sendCell c 0) 0 ∗ semVal (sendCell c 1) 0 ∗ semVal (sendCell c 2) 0
      ∗ semVal (landCell c 0) 0 ∗ semVal (landCell c 1) 0 ∗ semVal (landCell c 2) 0) ∗ semVal (barCell c) 0)

def start (c : Dev nD) : sProp 𝕄 := iprop((∃ K, ghost m ρ K c) ∗ creds c ∗ levAts L lv)
def before (c : Dev nD) : sProp 𝕄 := iprop(start m ρ c ∗ work c)
def after (c : Dev nD) : sProp 𝕄 := iprop(work (F := F) c ∗ zeros c)

/-! ## The pipeline's data -/

def dats (_ : Fin 1) (c : Dev nD) : Dat τ (Elt F) Unit ℕ UU ℕ cfg0 c where
  A w := (init m ρ).mem ((cfg0.win w).arr.view.loc (c : Thread nD τ))
  after w _ := match w with
    | ⟨0, _⟩ => xIn m ρ c
    | ⟨1, _⟩ => rIn m ρ c
    | ⟨2, _⟩ => wIn m ρ c
    | ⟨3, _⟩ => outAt m ρ c
  Φ t := match t with
    | ⟨0, _⟩ => before m ρ c
    | ⟨_ + 1, _⟩ => after c
  q _ := fullShare
  owed t := match t with
    | ⟨0, _⟩ => owe0 c
    | ⟨_ + 1, _⟩ => 0

/-! ## The payloads: the three sent parts are one expression -/

theorem pay7_eq (x : Vec F S256x256 .f32) (k : Vec F S256x128 .f32) (w0 w1 w2 w3 : Vec F S1x256x512 .f32) :
    k0_pay7 (k0_pay3 x) k (k0_pay4 x k w0 w1) (k0_pay5 x k) (k0_pay6 w2) w3 = k0_pay9 (k0_pay8 x k w0 w1 w2 w3) := rfl
theorem pay13_eq (x : Vec F S256x256 .f32) (k : Vec F S256x128 .f32) (w0 w1 w2 w3 : Vec F S1x256x512 .f32) :
    k0_pay13 (k0_pay10 x) k (k0_pay11 (F := F)) (k0_pay12 x k) w0 w1 w2 w3 = k0_pay9 (k0_pay8 x k w0 w1 w2 w3) := rfl

theorem zero2 : (![0, 0] : Fin 2 → Nat) = fun _ => 0 := funext fun a => by fin_cases a <;> rfl

/-! ## Loads of the row blocks and of the weights -/

section Loads
variable (c : Dev nD)

theorem load_x {α : Type} {Q : α → sProp 𝕄} (d : Dev nD) {off : Fin 2 → Nat} (ho : off = ![256 * d.val, 0])
    {hi : ∀ a, off a + S256x256.size a ≤ S1024x256.size a}
    {hl : (xM : Memref sig .tc .vmem S1024x256 .f32).view.LoadsAt (Rect.unit (s := S1024x256) off S256x256.size hi).toLoadRect}
    {k : Vec F S256x256 .f32 → Prog (TpuEff nD τ sig (Elt F) Λ₀ .tc) α} :
    (((c : Thread nD τ).loc cc0_stg0_0) ↦{fullShare} xIn m ρ c : sProp 𝕄)
      ⊢ iprop(((((c : Thread nD τ).loc cc0_stg0_0) ↦{fullShare} xIn m ρ c) -∗ wp frame (wpE (defs₀ (F := F)) 𝒱₀ (c : Thread nD τ) none) Set.univ (k (xAt m ρ c d)) Q)
        -∗ wp frame (wpE (defs₀ (F := F)) 𝒱₀ (c : Thread nD τ) none) Set.univ
          (.op (.load xM (Rect.unit (s := S1024x256) off S256x256.size hi).toLoadRect hl) k) Q) := by
  subst ho; exact wp_load 𝒱₀ (c : Thread nD τ) none Set.univ (m := xM) (Finset.subset_univ _)

theorem load_k {α : Type} {Q : α → sProp 𝕄} (d : Dev nD) {off : Fin 2 → Nat} (ho : off = ![256 * d.val, 0])
    {hi : ∀ a, off a + S256x128.size a ≤ S1024x128.size a}
    {hl : (kM : Memref sig .tc .vmem S1024x128 .f32).view.LoadsAt (Rect.unit (s := S1024x128) off S256x128.size hi).toLoadRect}
    {k : Vec F S256x128 .f32 → Prog (TpuEff nD τ sig (Elt F) Λ₀ .tc) α} :
    (((c : Thread nD τ).loc cc0_scratch0) ↦{fullShare} keep m ρ c : sProp 𝕄)
      ⊢ iprop(((((c : Thread nD τ).loc cc0_scratch0) ↦{fullShare} keep m ρ c) -∗ wp frame (wpE (defs₀ (F := F)) 𝒱₀ (c : Thread nD τ) none) Set.univ (k (kAt m ρ c d)) Q)
        -∗ wp frame (wpE (defs₀ (F := F)) 𝒱₀ (c : Thread nD τ) none) Set.univ
          (.op (.load kM (Rect.unit (s := S1024x128) off S256x128.size hi).toLoadRect hl) k) Q) := by
  subst ho; exact wp_load 𝒱₀ (c : Thread nD τ) none Set.univ (m := kM) (Finset.subset_univ _)

theorem load_w {α : Type} {Q : α → sProp 𝕄} (e : Fin 4)
    {hl : (wM : Memref sig .tc .vmem S4x256x512 .f32).view.LoadsAt (Rect.unit (s := S4x256x512) ![e.val, 0, 0] S1x256x512.size (w_inb e)).toLoadRect}
    {k : Vec F S1x256x512 .f32 → Prog (TpuEff nD τ sig (Elt F) Λ₀ .tc) α} :
    (((c : Thread nD τ).loc cc0_stg2_0) ↦{fullShare} wIn m ρ c : sProp 𝕄)
      ⊢ iprop(((((c : Thread nD τ).loc cc0_stg2_0) ↦{fullShare} wIn m ρ c) -∗ wp frame (wpE (defs₀ (F := F)) 𝒱₀ (c : Thread nD τ) none) Set.univ (k (wAt m ρ c e)) Q)
        -∗ wp frame (wpE (defs₀ (F := F)) 𝒱₀ (c : Thread nD τ) none) Set.univ
          (.op (.load wM (Rect.unit (s := S4x256x512) ![e.val, 0, 0] S1x256x512.size (w_inb e)).toLoadRect hl) k) Q) :=
  wp_load 𝒱₀ (c : Thread nD τ) none Set.univ (m := wM) (Finset.subset_univ _)

theorem store_whole {α : Type} {Q : α → sProp 𝕄} {cs : CoreSpace} {i : Fin (sig.nNear .tc cs)} {hκ : sig.names .tc cs i = true} {off : Fin (sig.tyNear .tc cs i).shape.rank → Nat} (hz : off = fun _ => 0)
    {hi : ∀ a, off a + (sig.tyNear .tc cs i).shape.size a ≤ (sig.tyNear .tc cs i).shape.size a} {f v : (sig.tyNear .tc cs i).Contents (Elt F)}
    {h1 : ((Memref.whole (⟨cs, i, hκ⟩ : Ref sig .tc)).access (Rect.unit (s := (sig.tyNear .tc cs i).shape) off (sig.tyNear .tc cs i).shape.size hi)).Stores Finset.univ} {h2}
    {k : PUnit → Prog (TpuEff nD τ sig (Elt F) Λ₀ .tc) α} :
    (((c : Thread nD τ).loc ⟨cs, i, hκ⟩) ↦{fullShare} f : sProp 𝕄)
      ⊢ iprop(((((c : Thread nD τ).loc ⟨cs, i, hκ⟩) ↦{fullShare} v) -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole (⟨cs, i, hκ⟩ : Ref sig .tc)) (Rect.unit (s := (sig.tyNear .tc cs i).shape) off (sig.tyNear .tc cs i).shape.size hi) v Finset.univ h1 h2) k) Q) := by
  subst hz; exact wp_store_whole 𝒱₀ (c : Thread nD τ) none Set.univ

/-- The store of the mask; -/
theorem store_keep {α : Type} {Q : α → sProp 𝕄} {f : Vec F S1024x128 .f32} {hi : ∀ a, (![0, 0] : Fin 2 → Nat) a + S1024x128.size a ≤ S1024x128.size a}
    {h1 : (((kM : Memref sig .tc .vmem S1024x128 .f32).access (Rect.unit (s := S1024x128) ![0, 0] S1024x128.size hi)) : View sig .tc _ _ _).Stores Finset.univ} {h2}
    {k : PUnit → Prog (TpuEff nD τ sig (Elt F) Λ₀ .tc) α} :
    (((c : Thread nD τ).loc cc0_scratch0) ↦{fullShare} f : sProp 𝕄)
      ⊢ iprop(((((c : Thread nD τ).loc cc0_scratch0) ↦{fullShare} keep m ρ c) -∗ wp frame (wpE (defs₀ (F := F)) 𝒱₀ (c : Thread nD τ) none) Set.univ (k ⟨⟩) Q)
        -∗ wp frame (wpE (defs₀ (F := F)) 𝒱₀ (c : Thread nD τ) none) Set.univ
          (.op (.store kM (Rect.unit (s := S1024x128) ![0, 0] S1024x128.size hi) (keep m ρ c) Finset.univ h1 h2) k) Q) :=
  store_whole c zero2

/-- the store of the result block. -/
theorem store_out {α : Type} {Q : α → sProp 𝕄} {f : Vec F S256x512 .f32} {hi : ∀ a, (![0, 0] : Fin 2 → Nat) a + S256x512.size a ≤ S256x512.size a}
    {h1 : (((oM : Memref sig .tc .vmem S256x512 .f32).access (Rect.unit (s := S256x512) ![0, 0] S256x512.size hi)) : View sig .tc _ _ _).Stores Finset.univ} {h2}
    {k : PUnit → Prog (TpuEff nD τ sig (Elt F) Λ₀ .tc) α} :
    (((c : Thread nD τ).loc cc0_stg3_0) ↦{fullShare} f : sProp 𝕄)
      ⊢ iprop(((((c : Thread nD τ).loc cc0_stg3_0) ↦{fullShare} outAt m ρ c) -∗ wp frame (wpE (defs₀ (F := F)) 𝒱₀ (c : Thread nD τ) none) Set.univ (k ⟨⟩) Q)
        -∗ wp frame (wpE (defs₀ (F := F)) 𝒱₀ (c : Thread nD τ) none) Set.univ
          (.op (.store oM (Rect.unit (s := S256x512) ![0, 0] S256x512.size hi) (outAt m ρ c) Finset.univ h1 h2) k) Q) :=
  store_whole c zero2

end Loads

/-! ## The body -/

/-- Which waits a device has made is forgotten. -/
theorem owes_some (c : Dev nD) (O : CellTallies nD τ sig Unit) (W : Waits sig Unit) : (owes (c : Thread nD τ) O W : sProp 𝕄) ⊢ iprop(∃ W, owes (c : Thread nD τ) O W) := by
  iintro H; iexists W; iexact H

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(before m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(after c ∗ (dats m ρ 0 c).owesAt () t0_0.succ ∗ stg c cc0_stg0_0 (xIn m ρ c) ∗ stg c cc0_stg1_0 (rIn m ρ c)
    ∗ stg c cc0_stg2_0 (wIn m ρ c) ∗ stg c cc0_stg3_0 (outAt m ρ c))

set_option maxHeartbeats 4000000 in
set_option maxRecDepth 8000 in
/-- The body from `bodyPre` to `bodyPost`, one rule per effect in program order. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel
    k0_part9_skel k0_part10_skel
  simp only [semSignalWord, semWaitWord, Prog.lift, Prog.bind_op, Prog.bind_ret, Prog.pure_eq_ret, wp_deviceId]
  simp only [pay7_eq, pay13_eq]
  unfold bodyPre before start ghost ghostJ creds work
  iintro ⟨⟨⟨⟨⟨%K, #IB, aB,
      ⟨⟨#IS0, #IL0, #IBn0, #ILn0⟩, ⟨#rS0, #rL0, #rB0, #rLn0⟩, ⟨aS0, aL0⟩, tB0, tS0, tL0⟩,
      ⟨⟨#IS1, #IL1, #IBn1, #ILn1⟩, ⟨#rS1, #rL1, #rB1, #rLn1⟩, ⟨aS1, aL1⟩, tB1, tS1, tL1⟩,
      ⟨⟨#IS2, #IL2, #IBn2, #ILn2⟩, ⟨#rS2, #rL2, #rB2, #rLn2⟩, ⟨aS2, aL2⟩, tB2, tS2, tL2⟩⟩,
      ⟨cB, cL0, cL1, cL2⟩, #Hlev⟩, ⟨%fk, Hk0⟩, ⟨%fs, Hs⟩, ⟨%fl, Hl⟩⟩,
    Ho, ⟨%d0, %g0, %hg0, Hx⟩, ⟨%d1, %g1, %hg1, Hr⟩, ⟨%d2, %g2, %hg2, Hw⟩, ⟨%d3, %g3, %hg3, Hout⟩⟩, Hk⟩
  have hx : g0 = xIn m ρ c := by rw [hg0]; unfold Dat.before; rw [if_pos (fetch0_0 t0_0)]; rfl
  have hr : g1 = rIn m ρ c := by rw [hg1]; unfold Dat.before; rw [if_pos (fetch0_1 t0_0)]; rfl
  have hw : g2 = wIn m ρ c := by rw [hg2]; unfold Dat.before; rw [if_pos (fetch0_2 t0_0)]; rfl
  subst hx hr hw
  unfold Dat.owesAt Pipeline.owesWithin
  icases Ho with ⟨%W, %hW, HO⟩
  rw [show (dats m ρ 0 c).owed t0_0.castSucc = owe2 c + tallyB c 1 + tallyB c 0 from rfl]
  ihave Hsl := (slots_split lM (View.set_whole _) c fl) $$ Hl
  icases Hsl with ⟨Hl0, Hl1, Hl2⟩
  ihave Hss := (slots_split sM (View.set_whole _) c fs) $$ Hs
  icases Hss with ⟨Hs0, Hs1, Hs2⟩
  -- the three arrival signals
  iapply (step_signal m ρ c K 0 (dev1_eq c) (owe2 c + tallyB c 1) W fl) $$ [HO tB0 Hl0]
  · isplitr; · iexact IBn0
    isplitl [HO]; · iexact HO
    isplitl [tB0]; · iexact tB0
    isplitl [Hl0]; · iexact Hl0
    isplitr; · iexact rL0
    iexact rB0
  iintro HO
  iapply (step_signal m ρ c K 1 (dev2_eq c) (owe2 c) W fl) $$ [HO tB1 Hl1]
  · isplitr; · iexact IBn1
    isplitl [HO]; · iexact HO
    isplitl [tB1]; · iexact tB1
    isplitl [Hl1]; · iexact Hl1
    isplitr; · iexact rL1
    iexact rB1
  iintro HO
  unfold owe2
  iapply (step_signal m ρ c K 2 (dev3_eq c) (owe3 c) W fl) $$ [HO tB2 Hl2]
  · isplitr; · iexact IBn2
    isplitl [HO]; · iexact HO
    isplitl [tB2]; · iexact tB2
    isplitl [Hl2]; · iexact Hl2
    isplitr; · iexact rL2
    iexact rB2
  iintro HO
  -- the wait for the three neighbours' signals
  iapply (Rounds.wp_wait_rest_token 𝒱₀ ER (plan m ρ) (c : Thread nD τ) none (κ := K (c, 0))
      (wpE_semWait_eq 𝒱₀ (c : Thread nD τ) none Set.univ) (Set.mem_univ _) () (O := owe3 c) (W := W) (R := 0) (m := 0) (T := ∅)
      (by rw [expect_bar]; decide)) $$ [cB HO aB]
  · isplitr; · iexact IB
    isplitl [cB]; · iexact cB
    isplitl [HO]; · iexact HO
    isplitr; · iapply (mayWait_bar c); iexact Hlev
    iexact aB
  iintro ⟨HO, aB, -, Hpay⟩
  ihave Hp := (Entails.of_eq (rest_bar m ρ c)) $$ Hpay
  unfold barPay
  icases Hp with ⟨⟨Hn0, -⟩, ⟨Hn1, -⟩, ⟨Hn2, -⟩⟩
  imod (Rounds.cell_close ER (plan m ρ) (Set.mem_univ (K (c, 0))) (fun h => h) (R := 0 + 1) (duties_later m ρ (barCell c))) $$ [aB] with zB
  · isplitr; · iexact IB
    iexact aB
  -- the mask
  ihave HO := (owes_some (F := F) c (owe3 c) _) $$ HO
  icases HO with ⟨%W1, HO⟩
  unfold owe3
  iapply (wp_load 𝒱₀ (c : Thread nD τ) none Set.univ (m := rM) (Finset.subset_univ _)) $$ Hr; iintro Hr
  rw [show (rM : Memref sig .tc .vmem S1024x1 .i32).view.readAt (Elt F) (Rect.unit (s := S1024x1) ![0, 0] S1024x1.size inb_S1024x1_S1024x1_0_0).toLoadRect (rIn m ρ c) = rIn m ρ c
    from Memref.readAt_unit_zero (Elt F) cc0_stg1_0 zero2 _ _]
  iapply (wp_load 𝒱₀ (c : Thread nD τ) none Set.univ (m := kM) (Finset.subset_univ _)) $$ Hk0; iintro Hk0
  iapply (store_keep m ρ c) $$ Hk0; iintro Hk0
  -- the part for neighbour 0
  iapply (load_x m ρ c (nbr c 0) (off1_0 c)) $$ Hx; iintro Hx
  iapply (load_k m ρ c (nbr c 0) (off2_0 c)) $$ Hk0; iintro Hk0
  iapply (load_w m ρ c 0) $$ Hw; iintro Hw
  iapply (load_w m ρ c 1) $$ Hw; iintro Hw
  iapply (load_w m ρ c 2) $$ Hw; iintro Hw
  iapply (load_w m ρ c 3) $$ Hw; iintro Hw
  iapply (step_load_any c sM 0 _) $$ Hs0; iintro %u0 Hs0
  iapply (step_store c sM 0 (sent m ρ c 0) _) $$ Hs0; iintro Hs0
  iapply (step_send m ρ c K 0 (dev4_eq c) rfl rfl rfl rfl (owe4 c) W1) $$ [HO Hs0 Hn0 tS0 tL0]
  · isplitr; · iexact IS0
    isplitr; · iexact ILn0
    isplitl [Hs0]; · iexact Hs0
    isplitl [Hn0]; · iexact Hn0
    isplitl [HO]; · iexact HO
    isplitl [tS0]; · iexact tS0
    isplitr; · iexact rS0
    isplitl [tL0]; · iexact tL0
    iexact rLn0
  iintro ⟨cS0, HO⟩
  -- the part for neighbour 1
  unfold owe4
  iapply (load_x m ρ c (nbr c 1) (off1_1 c)) $$ Hx; iintro Hx
  iapply (load_k m ρ c (nbr c 1) (off2_1 c)) $$ Hk0; iintro Hk0
  iapply (load_w m ρ c 0) $$ Hw; iintro Hw
  iapply (load_w m ρ c 1) $$ Hw; iintro Hw
  iapply (load_w m ρ c 2) $$ Hw; iintro Hw
  iapply (load_w m ρ c 3) $$ Hw; iintro Hw
  iapply (step_load_any c sM 1 _) $$ Hs1; iintro %u1 Hs1
  iapply (step_store c sM 1 (sent m ρ c 1) _) $$ Hs1; iintro Hs1
  iapply (step_send m ρ c K 1 (dev5_eq c) rfl rfl rfl rfl (owe5 c) W1) $$ [HO Hs1 Hn1 tS1 tL1]
  · isplitr; · iexact IS1
    isplitr; · iexact ILn1
    isplitl [Hs1]; · iexact Hs1
    isplitl [Hn1]; · iexact Hn1
    isplitl [HO]; · iexact HO
    isplitl [tS1]; · iexact tS1
    isplitr; · iexact rS1
    isplitl [tL1]; · iexact tL1
    iexact rLn1
  iintro ⟨cS1, HO⟩
  -- the part for neighbour 2
  unfold owe5
  iapply (load_x m ρ c (nbr c 2) (off1_2 c)) $$ Hx; iintro Hx
  iapply (load_k m ρ c (nbr c 2) (off2_2 c)) $$ Hk0; iintro Hk0
  iapply (load_w m ρ c 0) $$ Hw; iintro Hw
  iapply (load_w m ρ c 1) $$ Hw; iintro Hw
  iapply (load_w m ρ c 2) $$ Hw; iintro Hw
  iapply (load_w m ρ c 3) $$ Hw; iintro Hw
  iapply (step_load_any c sM 2 _) $$ Hs2; iintro %u2 Hs2
  iapply (step_store c sM 2 (sent m ρ c 2) _) $$ Hs2; iintro Hs2
  iapply (step_send m ρ c K 2 (dev6_eq c) rfl rfl rfl rfl 0 W1) $$ [HO Hs2 Hn2 tS2 tL2]
  · isplitr; · iexact IS2
    isplitr; · iexact ILn2
    isplitl [Hs2]; · iexact Hs2
    isplitl [Hn2]; · iexact Hn2
    isplitl [HO]; · iexact HO
    isplitl [tS2]; · iexact tS2
    isplitr; · iexact rS2
    isplitl [tL2]; · iexact tL2
    iexact rLn2
  iintro ⟨cS2, HO⟩
  -- the part the device keeps
  iapply (load_x m ρ c c (k0_off3_eq c)) $$ Hx; iintro Hx
  iapply (load_k m ρ c c (k0_off4_eq c)) $$ Hk0; iintro Hk0
  iapply (load_w m ρ c 0) $$ Hw; iintro Hw
  iapply (load_w m ρ c 1) $$ Hw; iintro Hw
  iapply (load_w m ρ c 2) $$ Hw; iintro Hw
  iapply (load_w m ρ c 3) $$ Hw; iintro Hw
  -- the six waits
  ihave HO := (owes_some (F := F) c 0 W1) $$ HO
  iapply (step_wait_send m ρ c K 0 (dst := slot sM 0) rfl rfl) $$ [HO cS0 aS0]
  · isplitr; · iexact IS0
    isplitl [cS0]; · iexact cS0
    isplitl [HO]; · iexact HO
    iexact aS0
  iintro ⟨HO, zS0, Hs0⟩
  iapply (step_wait_land m ρ c K 2 (dst := slot lM 2) rfl rfl) $$ [HO cL2 aL2]
  · isplitr; · iexact IL2
    isplitl [cL2]; · iexact cL2
    isplitl [HO]; · iexact HO
    iexact aL2
  iintro ⟨HO, zL2, Hl2⟩
  iapply (step_wait_send m ρ c K 1 (dst := slot sM 1) rfl rfl) $$ [HO cS1 aS1]
  · isplitr; · iexact IS1
    isplitl [cS1]; · iexact cS1
    isplitl [HO]; · iexact HO
    iexact aS1
  iintro ⟨HO, zS1, Hs1⟩
  iapply (step_wait_land m ρ c K 1 (dst := slot lM 1) rfl rfl) $$ [HO cL1 aL1]
  · isplitr; · iexact IL1
    isplitl [cL1]; · iexact cL1
    isplitl [HO]; · iexact HO
    iexact aL1
  iintro ⟨HO, zL1, Hl1⟩
  iapply (step_wait_send m ρ c K 2 (dst := slot sM 2) rfl rfl) $$ [HO cS2 aS2]
  · isplitr; · iexact IS2
    isplitl [cS2]; · iexact cS2
    isplitl [HO]; · iexact HO
    iexact aS2
  iintro ⟨HO, zS2, Hs2⟩
  iapply (step_wait_land m ρ c K 0 (dst := slot lM 0) rfl rfl) $$ [HO cL0 aL0]
  · isplitr; · iexact IL0
    isplitl [cL0]; · iexact cL0
    isplitl [HO]; · iexact HO
    iexact aL0
  iintro ⟨HO, zL0, Hl0⟩
  -- the landed parts, the sum and its store
  iapply (step_load c lM 0 _) $$ Hl0; iintro Hl0
  iapply (step_load c lM 1 _) $$ Hl1; iintro Hl1
  iapply (step_load c lM 2 _) $$ Hl2; iintro Hl2
  iapply (wp_load 𝒱₀ (c : Thread nD τ) none Set.univ (m := oM) (Finset.subset_univ _)) $$ Hout; iintro Hout
  iapply (store_out m ρ c) $$ Hout; iintro Hout
  -- the working buffers whole again
  ihave Hs := (slots_join sM (View.set_whole _) c _ _ _) $$ [Hs0 Hs1 Hs2]
  · isplitl [Hs0]; · iexact Hs0
    isplitl [Hs1]; · iexact Hs1
    iexact Hs2
  ihave Hl := (slots_join lM (View.set_whole _) c _ _ _) $$ [Hl0 Hl1 Hl2]
  · isplitl [Hl0]; · iexact Hl0
    isplitl [Hl1]; · iexact Hl1
    iexact Hl2
  rw [wp_ret]; imodintro
  iapply Hk
  unfold bodyPost after work zeros
  isplitl [Hk0 Hs Hl zS0 zS1 zS2 zL0 zL1 zL2 zB]
  · isplitl [Hk0 Hs Hl]
    · isplitl [Hk0]; · iexists _; iexact Hk0
      isplitl [Hs]; · iexact Hs
      iexact Hl
    · isplitr [zB]
      · isplitl [zS0]; · iexact zS0
        isplitl [zS1]; · iexact zS1
        isplitl [zS2]; · iexact zS2
        isplitl [zL0]; · iexact zL0
        isplitl [zL1]; · iexact zL1
        iexact zL2
      iexact zB
  isplitl [HO]
  · unfold Dat.owesAt Pipeline.owesWithin
    icases HO with ⟨%W', HO⟩
    iexists W'
    isplitr; · ipureintro; exact fun _ _ => Or.inl trivial
    iexact HO
  isplitl [Hx]; · iexists _; isplitr; · ipureintro; rfl
                  iexact Hx
  isplitl [Hr]; · iexists _; isplitr; · ipureintro; rfl
                  iexact Hr
  isplitl [Hw]; · iexists _; isplitr; · ipureintro; rfl
                  iexact Hw
  iexists _
  isplitr; · ipureintro; rfl
  iexact Hout

set_option maxRecDepth 4000 in
/-- The body obligation of the pipeline, met on every device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => bodyPost m ρ c)
  iintro H
  iapply (sound_body m ρ c fun _ => bodyPost m ρ c)
  isplitl [H]; · iexact H
  iintro H; iexact H

end Cert.Experts

end
-- ==== Proof.Run.lean ====
/-
The launch: the cells' invariants and the duty tokens dealt to the four devices, the launch credits, and the run of the
program on all four together.
-/
module

public import proofs.«01_k».proof.Proof.Body
public import Idealize.ShloMosaic.Lib.Pipeline.CollectiveSegs

@[expose] public section

noncomputable section

namespace Cert.Experts

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide
theorem share_eq (c : Dev nD) (w : Fin cfg0.W) : (dats m ρ 0 c).share w = fullShare := by unfold Dat.share; split <;> rfl

/-! ## The cells and the tokens -/

theorem csem_injective : Function.Injective csem := by decide
theorem kcell_injective : Function.Injective kcell := fun a b h =>
  Prod.ext (congrArg (fun g : GSem nD τ sig => g.1.1) h) (csem_injective (congrArg Prod.snd h))
def cells : Finset (GSem nD τ sig) := Finset.univ.map ⟨kcell, kcell_injective⟩

/-- The duties of one device's cells: its barrier's three, one for each send, one for each landing. -/
def dutyOf (kj : Fin 3 × Fin 3) : SemLoc sig × Fin 3 := match kj.1 with
  | 0 => (.reg barS, kj.2) | 1 => (.dma (sendS kj.2), 0) | 2 => (.dma (landS kj.2), 0)
theorem dutyOf_injective : Function.Injective dutyOf := by decide
def tokOf (ck : Dev nD × Fin 3 × Fin 3) : GSem nD τ sig × ℕ × Fin 3 := (((ck.1 : Thread nD τ), (dutyOf ck.2).1), 0, (dutyOf ck.2).2)
theorem tokOf_injective : Function.Injective tokOf := fun a b h =>
  Prod.ext (congrArg (fun x : GSem nD τ sig × ℕ × Fin 3 => x.1.1.1) h)
    (dutyOf_injective (Prod.ext (congrArg (fun x : GSem nD τ sig × ℕ × Fin 3 => x.1.2) h) (congrArg (fun x : GSem nD τ sig × ℕ × Fin 3 => x.2.2) h)))
def tokens : Finset (GSem nD τ sig × ℕ × Fin 3) := Finset.univ.map ⟨tokOf, tokOf_injective⟩

def u₀ : UU :=
  (initOf (Pipeline.cells cfgs cellOf_inj) (Pipeline.launchToks cfgs cellOf_inj), initOf cells tokens)

/-- The tokens of the duties of `c`'s own cells; -/
def toks (c : Dev nD) : sProp 𝕄 :=
  iprop((bigSep Finset.univ fun j : Fin 3 => dutyTok ER (barCell c) 0 j) ∗ (bigSep Finset.univ fun j : Fin 3 => dutyTok ER (sendCell c j) 0 0)
    ∗ bigSep Finset.univ fun j : Fin 3 => dutyTok ER (landCell c j) 0 0)
/-- of the duties `c` pays. -/
def payToks (c : Dev nD) : sProp 𝕄 :=
  iprop((bigSep Finset.univ fun j : Fin 3 => dutyTok ER (barCell (nbr c j)) 0 (back j)) ∗ (bigSep Finset.univ fun j : Fin 3 => dutyTok ER (sendCell c j) 0 0)
    ∗ bigSep Finset.univ fun j : Fin 3 => dutyTok ER (landCell (nbr c j) (back j)) 0 0)

/-- What a device is dealt before the invariants are allocated. -/
def dealt (c : Dev nD) : sProp 𝕄 :=
  iprop((bigSep Finset.univ fun k : Fin 7 => roundState ER (plan m ρ) (kcell (c, k)) 0)
    ∗ (bigSep Finset.univ fun k : Fin 7 => iprop(atPos ER (kcell (c, k)) 0 ∅ 0 ∗ reached ER (kcell (c, k)) 0)) ∗ toks c)

theorem cells_split (Φ : GSem nD τ sig → sProp 𝕄) :
    bigSep cells Φ = bigSep Finset.univ fun c : Dev nD => bigSep Finset.univ fun k : Fin 7 => Φ (kcell (c, k)) := by
  unfold cells; rw [bigSep_map, bigSep_univ_prod]; rfl
theorem tokens_split : bigSep tokens (fun x => (dutyTok ER x.1 x.2.1 x.2.2 : sProp 𝕄)) = bigSep Finset.univ fun c : Dev nD => toks c := by
  unfold tokens; rw [bigSep_map, bigSep_univ_prod]
  exact bigSep_congr fun c _ => by unfold toks; rw [bigSep_univ_prod, conj3]; rfl

theorem fund : BI.own (ER (initOf cells tokens)) ⊢ (|==> bigSep Finset.univ (dealt m ρ) : sProp 𝕄) := by
  iintro HX
  imod (Rounds.fund ER (plan m ρ) cells tokens) $$ HX with ⟨Hst, Hr, Hat, Htok⟩
  imodintro
  ihave Hst := (Entails.of_eq (cells_split (F := F) fun g => roundState ER (plan m ρ) g 0)) $$ Hst
  ihave Hat := (Entails.of_eq (cells_split (F := F) fun g => atPos ER g 0 ∅ 0)) $$ Hat
  ihave Hr := (Entails.of_eq (cells_split (F := F) fun g => reached ER g 0)) $$ Hr
  ihave Htok := (Entails.of_eq (tokens_split (F := F))) $$ Htok
  unfold dealt; simp only [bigSep_sep']
  isplitl [Hst]; · iexact Hst
  isplitl [Hat Hr]
  · isplitl [Hat] <;> iassumption
  iexact Htok

theorem conj7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The kernel's own semaphores are the three sends and the three landings; -/
theorem ownSems_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
      ∗ semVal (landCell c 0) 0 ∗ semVal (landCell c 1) 0 ∗ semVal (landCell c 2) 0) := by
  rw [Pipeline.ownSems0_eq_of_list c osem [0, 1, 2, 3, 4, 5] (by decide) (by decide)]; rfl
/-- the barrier semaphore is the one that outlives it. -/
theorem unscopedSems_eq (c : Dev nD) : (unscopedSems0 c : sProp 𝕄) = semVal (barCell c) 0 := by
  unfold unscopedSems0; rw [bigSep_eq_bigSepL_of_eq [SemLoc.reg barS] (by decide) (by decide)]; rfl
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems_eq, unscopedSems_eq, conj7]
  iintro ⟨H, HB⟩
  isplitl [HB]; · iexact HB
  iexact H

/-- One device's semaphores become its seven cells' invariants. -/
theorem alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (plan m ρ) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (sems_eq (F := F) c) $$ [Hos Hus]
  · isplitl [Hos] <;> iassumption
  imod (show iprop((bigSep Finset.univ fun k : Fin 7 => semVal (kcell (c, k)) 0) ∗ bigSep Finset.univ fun k : Fin 7 => roundState ER (plan m ρ) (kcell (c, k)) 0)
      ⊢ (|={Set.univ}=> bigSep Finset.univ fun k => iprop(∃ κ : ℕ, cellInv ER (plan m ρ) κ (kcell (c, k))) : sProp 𝕄) from by
        rw [← bigSep_sep']
        exact (bigSep_mono fun k _ => (Rounds.body_intro ER (plan m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, and that every cell is at its first round. -/
def records (K : Dev nD × Fin 7 → ℕ) : sProp 𝕄 :=
  iprop((bigSep Finset.univ fun ck : Dev nD × Fin 7 => cellInv ER (plan m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) {g : GSem nD τ sig} (h : kcell ck = g) :
    records m ρ K ⊢ cellInv ER (plan m ρ) (K ck) g := by
  subst h; unfold records
  exact sep_elim_left.trans (bigSep_elim (Finset.mem_univ ck))
theorem reached_at (K : Dev nD × Fin 7 → ℕ) (ck : Dev nD × Fin 7) {g : GSem nD τ sig} (h : kcell ck = g) :
    records m ρ K ⊢ reached ER g 0 := by
  subst h; unfold records
  exact sep_elim_right.trans (bigSep_elim (Finset.mem_univ ck))

/-- What a device keeps for itself alone: its positions and the tokens it pays with. -/
def linear (c : Dev nD) : sProp 𝕄 := iprop((bigSep Finset.univ fun k : Fin 7 => atPos ER (kcell (c, k)) 0 ∅ 0) ∗ payToks c)

/-- The exchange with one neighbour, from the records and this device's positions and tokens for it. -/
theorem ghostJ_intro (K : Dev nD × Fin 7 → ℕ) (c : Dev nD) (j : Fin 3) :
    iprop(records m ρ K ∗ (atPos ER (sendCell c j) 0 ∅ 0 ∗ atPos ER (landCell c j) 0 ∅ 0)
        ∗ dutyTok ER (barCell (nbr c j)) 0 (back j) ∗ dutyTok ER (sendCell c j) 0 0 ∗ dutyTok ER (landCell (nbr c j) (back j)) 0 0)
      ⊢ ghostJ m ρ K c j := by
  unfold ghostJ
  iintro ⟨#HR, Ha, Ht⟩
  isplitr
  · isplitr; · iapply (inv_at m ρ K (c, kS j) (kcell_send c j)); iexact HR
    isplitr; · iapply (inv_at m ρ K (c, kL j) (kcell_land c j)); iexact HR
    isplitr; · iapply (inv_at m ρ K (nbr c j, 0) rfl); iexact HR
    iapply (inv_at m ρ K (nbr c j, kL (back j)) (kcell_land (nbr c j) (back j))); iexact HR
  isplitr
  · isplitr; · iapply (reached_at m ρ K (c, kS j) (kcell_send c j)); iexact HR
    isplitr; · iapply (reached_at m ρ K (c, kL j) (kcell_land c j)); iexact HR
    isplitr; · iapply (reached_at m ρ K (nbr c j, 0) rfl); iexact HR
    iapply (reached_at m ρ K (nbr c j, kL (back j)) (kcell_land (nbr c j) (back j))); iexact HR
  isplitl [Ha]; · iexact Ha
  iexact Ht

theorem ghost_intro (K : Dev nD × Fin 7 → ℕ) (c : Dev nD) : iprop(records m ρ K ∗ linear c) ⊢ iprop(∃ K, ghost m ρ K c) := by
  unfold linear payToks ghost
  rw [conj7, conj3, conj3, conj3]
  iintro ⟨#HR, ⟨aB, aS0, aS1, aS2, aL0, aL1, aL2⟩, ⟨tB0, tB1, tB2⟩, ⟨tS0, tS1, tS2⟩, ⟨tL0, tL1, tL2⟩⟩
  iexists K
  isplitr; · iapply (inv_at m ρ K (c, 0) rfl); iexact HR
  isplitl [aB]; · iexact aB
  isplitl [aS0 aL0 tB0 tS0 tL0]
  · iapply (ghostJ_intro m ρ K c 0)
    isplitr; · iexact HR
    isplitl [aS0 aL0]
    · isplitl [aS0]; · iexact aS0
      iexact aL0
    isplitl [tB0]; · iexact tB0
    isplitl [tS0]; · iexact tS0
    iexact tL0
  isplitl [aS1 aL1 tB1 tS1 tL1]
  · iapply (ghostJ_intro m ρ K c 1)
    isplitr; · iexact HR
    isplitl [aS1 aL1]
    · isplitl [aS1]; · iexact aS1
      iexact aL1
    isplitl [tB1]; · iexact tB1
    isplitl [tS1]; · iexact tS1
    iexact tL1
  iapply (ghostJ_intro m ρ K c 2)
  isplitr; · iexact HR
  isplitl [aS2 aL2]
  · isplitl [aS2]; · iexact aS2
    iexact aL2
  isplitl [tB2]; · iexact tB2
  isplitl [tS2]; · iexact tS2
  iexact tL2

/-- A family over (device, neighbour number) is the same family seen from the other ends. -/
theorem flipped (Φ : Dev nD → Fin 3 → sProp 𝕄) :
    (bigSep Finset.univ fun c : Dev nD => bigSep Finset.univ fun j : Fin 3 => Φ c j)
      = bigSep Finset.univ fun c : Dev nD => bigSep Finset.univ fun j : Fin 3 => Φ (nbr c j) (back j) := by
  rw [← bigSep_univ_prod (fun p : Dev nD × Fin 3 => Φ p.1 p.2), bigSep_univ_equiv flip, bigSep_univ_prod]; rfl

/-- The tokens dealt to the devices that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', flipped (F := F) fun c j => dutyTok ER (barCell c) 0 j,
    flipped (F := F) fun c j => dutyTok ER (landCell c j) 0 0]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (plan m ρ) κ (kcell (c, k))))
          ∗ (bigSep Finset.univ fun k => iprop(atPos ER (kcell (c, k)) 0 ∅ 0 ∗ reached ER (kcell (c, k)) 0)) ∗ toks c) : sProp 𝕄)
      ⊢ bigSep Finset.univ fun c => iprop(∃ K, ghost m ρ K c) := by
  rw [bigSep_sep', bigSep_sep', ← bigSep_univ_prod (fun ck : Dev nD × Fin 7 => iprop(∃ κ : ℕ, cellInv ER (plan m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (plan m ρ) κ (kcell ck) : sProp 𝕄))) $$ HI
  icases HK with ⟨%K, #HI⟩
  ihave Htk := (toks_around (F := F)) $$ Htok
  iapply (with_persistent (R := records m ρ K) fun c _ => ghost_intro m ρ K c)
  isplitr
  · unfold records; isplitl; · iexact HI
    iexact HR
  · unfold linear; rw [bigSep_sep']
    isplitl [Hat]; · iexact Hat
    iexact Htk

/-- Every device's semaphores at once become what the four runs start from. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ fun c => iprop(∃ K, ghost m ρ K c) :=
  ((bigSep_mono fun c _ => alloc m ρ c).trans (bigSep_fupd _ _)).trans (BI.fupd_mono (regroup m ρ))

/-! ## The launch credit -/

/-- How many of device `d`'s transfers land on the cell `g`, and how many of its signals go to it. -/
def hitsX (d : Dev nD) (g : GSem nD τ sig) : ℕ :=
  (if g = landCell (nbr d 2) (back 2) then 1 else 0) + (if g = landCell (nbr d 1) (back 1) then 1 else 0) + (if g = landCell (nbr d 0) (back 0) then 1 else 0)
def hitsB (d : Dev nD) (g : GSem nD τ sig) : ℕ :=
  (if g = barCell (nbr d 2) then 1 else 0) + (if g = barCell (nbr d 1) then 1 else 0) + (if g = barCell (nbr d 0) then 1 else 0)

theorem owed_at (d : Dev nD) (g : GSem nD τ sig) : owe0 d g () = hitsX d g * N + hitsB d g := by
  unfold owe0 owe1 owe2 owe3 owe4 owe5 hitsX hitsB
  simp only [Pi.add_apply, Finsupp.add_apply, tallyAt_apply, and_true, Pi.zero_apply, Finsupp.zero_apply, Nat.zero_add, Nat.add_mul, ite_mul, Nat.one_mul, Nat.zero_mul, Nat.add_assoc]

theorem hits_bar : ∀ c : Dev nD, (∑ d : Dev nD, hitsX d (barCell c)) = 0 ∧ (∑ d : Dev nD, hitsB d (barCell c)) = 3 := by decide +kernel
theorem hits_land : ∀ (c : Dev nD) (j : Fin 3), (∑ d : Dev nD, hitsX d (landCell c j)) = 1 ∧ (∑ d : Dev nD, hitsB d (landCell c j)) = 0 := by decide +kernel

theorem launch_at (g : GSem nD τ sig) (n : ℕ) (h : (∑ d : Dev nD, hitsX d g) * N + (∑ d : Dev nD, hitsB d g) = n) :
    tallyOn g (launchCredit (Pipeline.owing owe0) 0 g) = (tallyAt g () n : CellTallies nD τ sig Unit) := by
  unfold tallyAt; refine congrArg _ (Finsupp.ext fun u => ?_); cases u
  rw [Pipeline.launchCredit_owing, Finsupp.single_eq_same, Finset.sum_congr rfl fun d _ => owed_at d g, Finset.sum_add_distrib, ← Finset.sum_mul]
  exact h

/-- At launch a device holds credit for its three arrivals and its three landings. -/
theorem launch_creds (c : Dev nD) : (Pipeline.launchCred owe0 c : sProp 𝕄) ⊢ creds c := by
  unfold Pipeline.launchCred creds
  rw [← launch_at (barCell c) 3 (by rw [(hits_bar c).1, (hits_bar c).2, Nat.zero_mul]),
    ← launch_at (landCell c 0) N (by rw [(hits_land c 0).1, (hits_land c 0).2, Nat.one_mul, Nat.add_zero]),
    ← launch_at (landCell c 1) N (by rw [(hits_land c 1).1, (hits_land c 1).2, Nat.one_mul, Nat.add_zero]),
    ← launch_at (landCell c 2) N (by rw [(hits_land c 2).1, (hits_land c 2).2, Nat.one_mul, Nat.add_zero])]
  refine (bigSep_subset (t := [SemLoc.reg barS, .dma (landS 0), .dma (landS 1), .dma (landS 2)].toFinset) (Finset.subset_univ _)).trans
    (Entails.of_eq (bigSep_eq_bigSepL_of_eq _ rfl (by decide) _))

/-! ## The theorem's side conditions -/

/-- The one array no window stages, untouched. -/
def spare (c : Dev nD) : sProp 𝕄 := (((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred owe0 c ∗ prngReg c (ρ c) ∗ iprop(∃ K, ghost m ρ K c))
      ⊢ |={Set.univ}=> iprop(start m ρ c ∗ spare m c) := by
  rw [Pipeline.unscopedRestP_none, show cfg0.spec = spec0 from rfl, unscopedRest0_eq]
  iintro ⟨Hsp, Hlev, Hcr, -, HG⟩
  ihave Hc := (launch_creds (F := F) c) $$ Hcr
  imodintro
  unfold start spare
  isplitr [Hsp]
  · isplitl [HG]; · iexact HG
    isplitl [Hc]; · iexact Hc
    iexact Hlev
  iexact Hsp

theorem before_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, show cfg0.spec = spec0 from rfl, scopedRest0_eq]
  unfold before work
  iintro ⟨Hs, -, Hw⟩
  isplitl [Hs]; · iexact Hs
  iexact Hw

theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, show cfg0.spec = spec0 from rfl, scopedRest0_eq, ownSems_eq, unscopedSems_eq]
  unfold after work zeros
  iintro ⟨Hw, Hz, HzB⟩
  isplitl [HzB]; · iexact HzB
  isplitl [Hz]; · iexact Hz
  iexact Hw

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

/-- What the run ends with: each array a window moves at what its data say, the remaining argument as launched. -/
def Ends (s : MemSt nD τ sig (Elt F)) : Prop := ∀ c : Dev nD,
  (∀ w : Fin cfg0.W, s.mem ((cfg0.win w).arr.view.loc (c : Thread nD τ)) = (dats m ρ 0 c).arrAt w cfg0.N)
    ∧ s.mem ((c : Thread nD τ).loc main_arg1) = m ((c : Thread nD τ).loc main_arg1)

set_option maxRecDepth 8000 in
/-- On four devices, for any float values, from any memory with every counter at zero: every weakly fair execution of the
    program terminates, each array at its computed contents and every semaphore counter back at zero. -/
theorem run_main : θ_run defs (onTc (τ := τ) (main (F := F))) (init m ρ) (fun r => Ends m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := owe0) (howed₀ := fun _ => rfl) (howedN := fun _ => rfl)
    (L := L) (lv := lv) (hL := L_of_ne) (hwaits := waits m ρ)
    (G := dealt m ρ) (G' := fun c => iprop(∃ K, ghost m ρ K c)) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := spare m)
    (hX := start_intro m ρ) (hin := before_intro m ρ) (hout := after_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hz, HSI⟩
      unfold spare
      ihave H := (pointsTo_read_all {()} (fun _ : Unit => (c : Thread nD τ).loc main_arg1) (fun _ => m ((c : Thread nD τ).loc main_arg1)) s') $$ [Hz HSI]
      · isplitl [Hz]; · rw [bigSep_singleton]; iexact Hz
        iexact HSI
      icases H with ⟨%hm, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hm () (Finset.mem_singleton_self _)⟩
      iexact HSI)
    (hQ := fun _ h hs => ⟨fun c => ⟨(h c).1, (h c).2.2.2⟩, sem_eq_zero hs fun c => (h c).2.2.1⟩)

end Cert.Experts

end
-- ==== Proof.Frames.lean ====
/-
What every execution leaves unchanged: the arguments, and every semaphore counter at zero, for the program over any float
values and for the reference.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Experts

open Idealize.ShloMosaic Idealize.ShloMosaic.TcCoe Idealize.SL.Sem

section
open Cert.KernelIdeal Cert.KernelIdeal.Gen
variable {F : FTy → Type} [FloatOps F] (m : (ℓ : Loc nD τ sig) → Buf (Elt F) ℓ) (ρ : Dev nD → PrngReg)

/-- On every device the four arguments are as launched. -/
def Same (s : MemSt nD τ sig (Elt F)) : Prop := ∀ c : Dev nD,
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)

theorem Ends.same {s : MemSt nD τ sig (Elt F)} (h : Ends m ρ s) : Same m s := fun c =>
  ⟨((h c).1 0).trans ((dats m ρ 0 c).arrAt_in 0 rfl _), (h c).2,
    ((h c).1 1).trans ((dats m ρ 0 c).arrAt_in 1 rfl _), ((h c).1 2).trans ((dats m ρ 0 c).arrAt_in 2 rfl _)⟩
end

/-- The program, over any float values, ends with its arguments as launched and every counter at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => Same m r.2 ∧ r.2.sem = fun _ => 0) :=
  (θ_run Cert.KernelIdeal.defs _ _).mono (fun _ h => ⟨h.1.same, h.2⟩) (run_main m ρ)

/-- The two programs' bodies, written twice with one text, are one body -/
theorem same_bodies : Cert.Kernel.defs₀ (F := Bits) = Cert.KernelIdeal.defs₀ := by
  unfold Cert.Kernel.defs₀ Cert.KernelIdeal.defs₀
  refine congrArg Defs.onTc (funext fun l => funext fun a => ?_)
  match l, a with
  | ⟨0, _⟩, (t, s) => exact rfl
  | ⟨_ + 1, h⟩, _ => exact absurd h (Nat.not_lt.2 (Nat.le_add_left _ _))

/-- under one launch. -/
theorem same_defs : Cert.Kernel.defs (F := Bits) = Cert.KernelIdeal.defs := by
  unfold Cert.Kernel.defs Cert.KernelIdeal.defs
  rw [same_bodies]
  rfl

/-- Read at floats that are words of bits -/
theorem frame_kernel : Cert.quiescent_Kernel := fun m ρ _ => by
  rw [same_defs]
  exact frame (F := Bits) m ρ

/-- and at the extended reals. -/
theorem frame_ideal : Cert.quiescent_KernelIdeal := fun m ρ _ => frame (F := Ideal) m ρ

/-- The reference has no semaphore. -/
theorem no_sem : ∀ sm : SemLoc Cert.ReferenceIdeal.sig, False := by decide

/-- The reference ends with its arguments as launched and every counter at zero. -/
theorem frame_reference : Cert.quiescent_ReferenceIdeal := fun m ρ _ =>
  (θ_run Cert.ReferenceIdeal.defs _ _).mono (fun _ h => ⟨fun c => (h c).2, funext fun g => (no_sem g.2).elim⟩)
    (Cert.ReferenceIdeal.Value.run (F := Ideal) m ρ)

end Cert.Experts

end
-- ==== Proof.Routing.lean ====
/-
What the program computes, on plain functions: which expert a row goes to, and the sum over the experts of the rows'
products with their weights, a row counting for the expert it goes to and for no other. Nothing here names a program.
-/
module

public import Idealize.ShloMosaic.Lib.Pointwise
public import Idealize.ShloMosaic.Lib.IndicatorCount
public import Idealize.ShloMosaic.Lib.WordCmp

@[expose] public section

noncomputable section

namespace Cert.Experts

open Idealize.ShloMosaic

/-- How many of the rows before row `t` are routed to `v`. -/
def rank (r : Fin 1024 → BitVec 32) (t : Fin 1024) (v : BitVec 32) : ℕ := (Finset.univ.filter fun s => s < t ∧ r s = v).card

/-- Row `t` goes to expert `v`: it is routed there and fewer than fifty-one rows before it are. -/
def Goes (r : Fin 1024 → BitVec 32) (t : Fin 1024) (v : BitVec 32) : Prop := r t = v ∧ rank r t v < 51

instance (r : Fin 1024 → BitVec 32) (t : Fin 1024) (v : BitVec 32) : Decidable (Goes r t v) := instDecidableAnd

/-- One entry of a row's product with an expert's weights where the row goes to the expert, and zero where it does not. -/
def term (x : Fin 1024 → Fin 256 → EReal) (r : Fin 1024 → BitVec 32) (w : Fin 16 → Fin 256 → Fin 512 → EReal)
    (t : Fin 1024) (f : Fin 512) (e : Fin 16) : EReal :=
  if Goes r t (BitVec.ofNat 32 e.val) then ∑ k, x t k * w e k f else 0

theorem rank_le (r : Fin 1024 → BitVec 32) (t : Fin 1024) (v : BitVec 32) : rank r t v ≤ 1024 :=
  (Finset.card_le_univ _).trans (le_of_eq (Fintype.card_fin 1024))

/-! ## Bits read as numbers -/

theorem bit_iff (p : Prop) [Decidable p] : BitVec.ofBool (decide p) = 1#1 ↔ p := by by_cases h : p <;> simp [h]

theorem both_iff (a b : BitVec 1) : IntOp.andi a b = 1#1 ↔ a = 1#1 ∧ b = 1#1 := by
  rcases BitVec.eq_zero_or_eq_one a with rfl | rfl <;> rcases BitVec.eq_zero_or_eq_one b with rfl | rfl <;> decide

theorem same_iff {n : ℕ} (a b : BitVec n) : IntOp.cmpi .eq a b = 1#1 ↔ a = b := by
  show BitVec.ofBool (a == b) = 1#1 ↔ a = b
  rcases hb : (a == b) with _ | _
  · exact iff_of_false (by decide) (by simpa using hb)
  · exact iff_of_true (by decide) (by simpa using hb)

theorem earlier_iff (s t : Fin 1024) : IntOp.cmpi .slt (BitVec.ofNat 32 s.val) (BitVec.ofNat 32 t.val) = 1#1 ↔ s < t := by
  rw [WordCmp.cmpi_slt_ofNat_eq_one_iff (by omega) (by omega)]; rfl

/-- A selection by a bit is the case distinction on it. -/
theorem select_if {α : Type} (b : BitVec 1) (x y : α) : Scalar.select b x y = if b = 1#1 then x else y := rfl

/-- A bit widened and read as an extended real is one or zero. -/
theorem bit_value (b : BitVec 1) : (FloatOps.sitofp .f32 (BitVec.setWidth 32 b) : Ideal .f32) = if b = 1#1 then (1 : EReal) else 0 := by
  show (((BitVec.setWidth 32 b).toInt : ℝ) : EReal) = _
  rcases BitVec.eq_zero_or_eq_one b with rfl | rfl
  · rw [if_neg (by decide)]; simp
  · rw [if_pos rfl, show (BitVec.setWidth 32 1#1).toInt = 1 by decide]; simp

theorem half_value : Ideal.ofBits FTy.f32 1112145920#32 = ((101 / 2 : ℝ) : EReal) := by
  simp [Ideal.ofBits, Ideal.ieee]
  rw [← EReal.coe_mul]
  norm_num

/-- A number is below fifty and a half exactly when it is below fifty-one. -/
theorem below_half (n : ℕ) : (n : EReal) < ((101 / 2 : ℝ) : EReal) ↔ n < 51 := by
  rw [← EReal.coe_natCast, EReal.coe_lt_coe_iff, lt_div_iff₀ (by norm_num)]
  norm_cast
  omega

/-- The rows before `t` routed to `v`, counted by a sum of products of two indicators. -/
theorem rank_sum (r : Fin 1024 → BitVec 32) (t : Fin 1024) (v : BitVec 32) :
    ∑ s, (if s < t then (1 : EReal) else 0) * (if r s = v then 1 else 0) = (rank r t v : EReal) := by
  unfold rank
  rw [← Finset.sum_boole]
  refine Finset.sum_congr rfl fun s _ => ?_
  by_cases h : s < t <;> by_cases h' : r s = v <;> simp [h, h']

/-- A row scaled by one or zero before its product is its product or zero. -/
theorem scaled_sum {n : ℕ} (p : Prop) [Decidable p] (x w : Fin n → EReal) :
    ∑ k, x k * (if p then (1 : EReal) else 0) * w k = if p then ∑ k, x k * w k else 0 := by
  by_cases h : p <;> simp [h]

/-! ## The sixteen experts by device -/

/-- Expert `k` of device `d`. -/
def expertOf (d : Fin 4) (k : Fin 4) : Fin 16 := ⟨4 * d.val + k.val, by omega⟩

/-- The sum over one device's four experts. -/
def four (g : Fin 16 → EReal) (d : Fin 4) : EReal :=
  g (expertOf d 0) + g (expertOf d 1) + g (expertOf d 2) + g (expertOf d 3)

theorem sum_four (g : Fin 16 → EReal) : ∑ e, g e = four g 0 + four g 1 + four g 2 + four g 3 := by
  rw [← (finProdFinEquiv (m := 4) (n := 4)).sum_comp g, Fintype.sum_prod_type]
  simp only [Fin.sum_univ_four]
  rfl

end Cert.Experts

end
-- ==== Proof.KernelValue.lean ====
/-
What the kernel leaves in its result on each device, entry by entry: the sum over the four devices of the parts their
experts contribute to that device's row block.
-/
module

public import proofs.«01_k».proof.Proof.Run
public import proofs.«01_k».proof.Proof.Routing
public import Idealize.ShloMosaic.Lib.Pipeline.ValueKit

@[expose] public section

set_option maxRecDepth 16384

noncomputable section

namespace Cert.Experts

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The arrays each device starts from -/

/-- A device's rows, routes and own four experts' weights, as plain functions. -/
def devRows (c : Dev nD) (t : Fin 1024) (k : Fin 256) : EReal :=
  (m ((c.tc : Thread nD τ).loc main_arg0) : FVec Ideal S1024x256 .f32) (ix2 t k)
def devRoutes (c : Dev nD) (t : Fin 1024) : BitVec 32 :=
  (m ((c.tc : Thread nD τ).loc main_arg2) : IVec S1024x1 32) (ix2 t 0)
def devWeights (c : Dev nD) (e : Fin 4) (k : Fin 256) (f : Fin 512) : EReal :=
  (m ((c.tc : Thread nD τ).loc main_arg3) : FVec Ideal S4x256x512 .f32) (ix3 e k f)

/-- The staged inputs are the whole arrays. -/
theorem xIn_eq (c : Dev nD) : xIn m ρ c = m ((c.tc : Thread nD τ).loc main_arg0) :=
  funext fun y => congrArg (m ((c.tc : Thread nD τ).loc main_arg0)) (funext fun a => Fin.ext
    (Pipeline.Window.rect_emb_val_of_index_zero win0_0 (0 : Fin 1) a (by fin_cases a <;> rfl) y))
theorem rIn_eq (c : Dev nD) : rIn m ρ c = m ((c.tc : Thread nD τ).loc main_arg2) :=
  funext fun y => congrArg (m ((c.tc : Thread nD τ).loc main_arg2)) (funext fun a => Fin.ext
    (Pipeline.Window.rect_emb_val_of_index_zero win0_1 (0 : Fin 1) a (by fin_cases a <;> rfl) y))
theorem wIn_eq (c : Dev nD) : wIn m ρ c = m ((c.tc : Thread nD τ).loc main_arg3) :=
  funext fun y => congrArg (m ((c.tc : Thread nD τ).loc main_arg3)) (funext fun a => Fin.ext
    (Pipeline.Window.rect_emb_val_of_index_zero win0_2 (0 : Fin 1) a (by fin_cases a <;> rfl) y))

/-- Row `t` of row block `d`. -/
def rowOf (d : Dev nD) (t : Fin 256) : Fin 1024 := ⟨256 * d.val + t.val, by have := t.isLt; have : d.val < 4 := d.isLt; omega⟩

theorem xAt_apply (c d : Dev nD) (t k : Fin 256) : xAt m ρ c d (ix2 t k) = devRows m c (rowOf d t) k := by
  unfold xAt
  rw [xIn_eq, View.readAt_apply]
  refine congrArg (m ((c.tc : Thread nD τ).loc main_arg0)) (funext fun a => Fin.ext ?_)
  fin_cases a
  · exact congrArg (256 * d.val + ·) (Nat.one_mul _)
  · exact (Nat.zero_add _).trans (Nat.one_mul _)

theorem kAt_apply (c d : Dev nD) (t : Fin 256) (l : Fin 128) : kAt m ρ c d (ix2 t l) = keep m ρ c (ix2 (rowOf d t) l) := by
  unfold kAt
  rw [View.readAt_apply]
  refine congrArg (keep m ρ c) (funext fun a => Fin.ext ?_)
  fin_cases a
  · exact congrArg (256 * d.val + ·) (Nat.one_mul _)
  · exact (Nat.zero_add _).trans (Nat.one_mul _)

theorem wAt_apply (c : Dev nD) (e : Fin 4) (k : Fin 256) (f : Fin 512) : wAt m ρ c e (ix3 0 k f) = devWeights m c e k f := by
  unfold wAt
  rw [wIn_eq, View.readAt_apply]
  refine congrArg (m ((c.tc : Thread nD τ).loc main_arg3)) (funext fun a => Fin.ext ?_)
  fin_cases a
  · rfl
  · exact (Nat.zero_add _).trans (Nat.one_mul _)
  · exact (Nat.zero_add _).trans (Nat.one_mul _)

/-! ## The mask -/

theorem place_word : ∀ c : Dev nD, Scalar.remsi (Scalar.divsi (Dev.word c) 1#32) 4#32 = BitVec.ofNat 32 c.val := by decide

/-- On its first four lanes a device's mask names its own four experts. -/
theorem lane_word : ∀ (c : Dev nD) (e : Fin 4),
    Scalar.select (IntOp.cmpi .slt (BitVec.ofNat 32 e.val) 4#32)
      (IntOp.addi (Scalar.muli (BitVec.ofNat 32 c.val) 4#32) (BitVec.ofNat 32 e.val)) 4294967289#32
      = BitVec.ofNat 32 (expertOf c e).val := by decide

/-- The mask is one where the row goes to the expert, and zero elsewhere. -/
theorem keep_apply (c : Dev nD) (t : Fin 1024) (e : Fin 4) (l : Fin 128) (h : l.val = e.val) :
    @Eq EReal (keep m ρ c (ix2 t l)) (if Goes (devRoutes m c) t (BitVec.ofNat 32 (expertOf c e).val) then 1 else 0) := by
  unfold keep
  rw [place_word]
  pointwise [k0_pay2]
  rw [h, lane_word, rIn_eq]
  simp only [bit_value, same_iff, earlier_iff, bit_iff]
  rw [half_value]
  refine (congrArg₂ (fun a b : EReal => a * b) rfl (if_congr (Eq.to_iff (congrArg (· < _) (rank_sum (devRoutes m c) t _))) rfl rfl)).trans ?_
  rw [if_congr (below_half _) rfl rfl]
  show (if devRoutes m c t = _ then (1 : EReal) else 0) * _ = _
  unfold Goes
  by_cases h1 : devRoutes m c t = BitVec.ofNat 32 (expertOf c e).val
  · simp only [h1, true_and, if_true, one_mul]
  · simp only [h1, false_and, if_false, zero_mul]

/-! ## The parts and their sum -/

variable {x : Fin 1024 → Fin 256 → EReal} {r : Fin 1024 → BitVec 32} {w : Fin 16 → Fin 256 → Fin 512 → EReal}

/-- The devices' arrays are the whole rows and routes, and the device's own four experts of the whole weights. -/
structure Cut (x : Fin 1024 → Fin 256 → EReal) (r : Fin 1024 → BitVec 32) (w : Fin 16 → Fin 256 → Fin 512 → EReal) : Prop where
  rows : ∀ c, devRows m c = x
  routes : ∀ c, devRoutes m c = r
  weights : ∀ c e, devWeights m c e = w (expertOf c e)

/-- One product of a part: the rows scaled by the mask, times one expert's weights. -/
theorem product_apply (h : Cut m x r w) (c d : Dev nD) (t : Fin 256) (f : Fin 512) (e : Fin 4) (l : Fin 128) (hl : l.val = e.val) :
    @Eq EReal (∑ k : Fin 256, xAt m ρ c d (ix2 t k) * kAt m ρ c d (ix2 t l) * wAt m ρ c e (ix3 0 k f))
      (term x r w (rowOf d t) f (expertOf c e)) := by
  unfold term
  rw [← scaled_sum]
  refine Finset.sum_congr rfl fun k _ => ?_
  rw [xAt_apply, kAt_apply, wAt_apply, h.rows, h.weights]
  rw [← h.routes c, ← keep_apply m ρ c _ e l hl]

/-- A device and the three others are all four. -/
theorem around (g : Fin 4 → EReal) : ∀ c : Fin 4, g c + g (nbr c 0) + g (nbr c 1) + g (nbr c 2) = g 0 + g 1 + g 2 + g 3
  | 0 => rfl
  | 1 => by show g 1 + g 2 + g 3 + g 0 = _; ac_rfl
  | 2 => by show g 2 + g 3 + g 0 + g 1 = _; ac_rfl
  | 3 => by show g 3 + g 0 + g 1 + g 2 = _; ac_rfl

/-- The result on a device is the sum over all sixteen experts, at the device's own rows. -/
theorem outAt_apply (h : Cut m x r w) (c : Dev nD) (t : Fin 256) (f : Fin 512) :
    @Eq EReal (outAt m ρ c (ix2 t f)) (∑ e, term x r w (rowOf c t) f e) := by
  pointwise [outAt, k0_pay1, k0_pay19, k0_pay20, k0_pay9, landed, partAt, k0_pay8, own, k0_pay15, k0_pay18, k0_pay16, k0_pay17, k0_pay14]
  have p := fun d => product_apply m ρ h d c t f
  have p0 := fun d => p d 0 0 rfl
  have p1 := fun d => p d 1 1 rfl
  have p2 := fun d => p d 2 2 rfl
  have p3 := fun d => p d 3 3 rfl
  simp only [p0, p1, p2, p3]
  rw [sum_four]
  generalize term x r w (rowOf c t) f = g
  have q : ∀ d, g (expertOf d 0) + g (expertOf d 1) + g (expertOf d 2) + g (expertOf d 3) = four g d := fun _ => rfl
  simp only [q]
  exact around (four g) c

/-- The result array after the run is what the body left. -/
theorem result_array (c : Dev nD) : (dats m ρ 0 c).arrAt 3 cfg0.N = outAt m ρ c := by
  refine (dats m ρ 0 c).arrAt_eq_of_after_last 3 t0_0 (by decide +kernel) _ fun j => ?_
  rfl

end Cert.Experts

end
-- ==== Proof.RefValue.lean ====
/-
The reference's result, entry by entry: the sum over the sixteen experts of the row's product with the expert's weights
where the row goes to that expert.
-/
module

public import proofs.«01_k».proof.Proof.Gen.ReferenceIdeal.Run
public import proofs.«01_k».proof.Proof.Routing
public import Idealize.ShloMosaic.Lib.Tactic.CleanTypes

@[expose] public section

set_option maxRecDepth 16384

noncomputable section

namespace Cert.Experts

open Idealize.ShloMosaic Idealize.ShloMosaic.TcCoe Idealize.SL.Sem

section
open Cert.ReferenceIdeal Cert.ReferenceIdeal.Gen

/-- The rows, the routes and the weights as plain functions. -/
abbrev rows (x : FVec Ideal S1024x256 .f32) (t : Fin 1024) (k : Fin 256) : EReal := x (ix2 t k)
abbrev routes (r : IVec S1024x1 32) (t : Fin 1024) : BitVec 32 := r (ix2 t 0)
abbrev weights (w : FVec Ideal S16x256x512 .f32) (e : Fin 16) (k : Fin 256) (f : Fin 512) : EReal := w (ix3 e k f)

/-- The whole result: at row `t` and column `f`, the sum over the experts. -/
def whole (x : FVec Ideal S1024x256 .f32) (r : IVec S1024x1 32) (w : FVec Ideal S16x256x512 .f32) : FVec Ideal S1024x512 .f32 :=
  fun j => ∑ e, term (rows x) (routes r) (weights w) (j 0) (j 1) e

/-- A count of the rows before `t` with a route is the rank there. -/
theorem count_word (r : IVec S1024x1 32) (t : Fin 1024) :
    Finset.fold IntOp.addi (0#32) (fun s : Fin 1024 => BitVec.setWidth 32
        (IntOp.andi (IntOp.cmpi .eq (r (ix2 t 0)) (r (ix2 s 0))) (IntOp.cmpi .slt (BitVec.ofNat 32 s.val) (BitVec.ofNat 32 t.val)))) Finset.univ
      = BitVec.ofNat 32 (rank (routes r) t (routes r t)) := by
  rw [IndicatorCount.fold_addi_setWidth_eq_card]
  refine congrArg (fun S : Finset (Fin 1024) => BitVec.ofNat 32 S.card) (Finset.filter_congr fun s _ => ?_)
  rw [both_iff, same_iff, earlier_iff]
  exact ⟨fun h => ⟨h.2, h.1.symm⟩, fun h => ⟨h.2.symm, h.1⟩⟩

theorem few_iff (n : ℕ) (h : n ≤ 1024) : IntOp.cmpi .slt (BitVec.ofNat 32 n) (51#32) = 1#1 ↔ n < 51 :=
  WordCmp.cmpi_slt_ofNat_eq_one_iff (w := 32) (b := 51) (by omega) (by omega)

/-- The run's result is that sum. -/
theorem reference_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
          = whole (m ((c.tc : Thread nD τ).loc main_arg0)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) := by
  refine (θ_run defs _ _).mono (fun _ h c => ⟨(h c).1.trans ?_, (h c).2⟩) (Value.run m ρ)
  generalize m ((c.tc : Thread nD τ).loc main_arg0) = x
  generalize m ((c.tc : Thread nD τ).loc main_arg2) = r
  generalize m ((c.tc : Thread nD τ).loc main_arg3) = w
  funext j
  obtain ⟨t, f, rfl⟩ : ∃ (t : Fin 1024) (f : Fin 512), j = ix2 t f := ⟨j 0, j 1, eq_ix2 j⟩
  show _ = ∑ e, term (rows x) (routes r) (weights w) t f e
  clean_types
  pointwise
  refine Finset.sum_congr rfl fun e _ => ?_
  rw [count_word, select_if, term]
  refine if_congr ?_ (Finset.sum_congr rfl fun k _ => mul_comm _ _) (Ideal.ofBits_zero_f32)
  rw [both_iff, same_iff, few_iff _ (rank_le _ _ _), Goes]
  exact and_congr_right fun h => by rw [← h]

end

end Cert.Experts

end
-- ==== Proof.Algebraic.lean ====
/-
The value claim: on every device the kernel's result is that device's row block of the reference's.
-/
module

public import proofs.«01_k».proof.Proof.Frames
public import proofs.«01_k».proof.Proof.KernelValue
public import proofs.«01_k».proof.Proof.RefValue

@[expose] public section

noncomputable section

namespace Cert.Experts

open Idealize.ShloMosaic Idealize.ShloMosaic.TcCoe Idealize.SL.Sem

section
open Cert.KernelIdeal Cert.KernelIdeal.Gen

variable (m : (ℓ : Loc nD τ sig) → Buf (Elt Ideal) ℓ) (ρ : Dev nD → PrngReg)

/-- The kernel leaves on every device that device's rows of the sum over all sixteen experts, and its arguments as launched. -/
theorem kernel_value {x : FVec Ideal S1024x256 .f32} {r : IVec S1024x1 32} {w : FVec Ideal ⟨3, ![16, 256, 512]⟩ .f32}
    (h : Cut m (rows x) (routes r) (weights w)) :
    θ_run (defs (F := Ideal)) (onTc (τ := τ) (main (F := Ideal))) ⟨m, fun _ => 0, ρ⟩ fun s => ∀ c : Dev nD,
      s.2.mem ((c.tc : Thread nD τ).loc main_v1) = Layout.block ⟨2, ![256, 512]⟩ ⟨2, ![1024, 512]⟩ 0 4 c (whole x r w)
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3) := by
  refine (θ_run defs _ _).mono (fun s hs c => ⟨?_, Ends.same m ρ hs.1 c⟩) (run_main (F := Ideal) m ρ)
  refine ((hs.1 c).1 3).trans ((result_array m ρ c).trans (funext fun j => ?_))
  obtain ⟨t, f, rfl⟩ : ∃ (t : Fin 256) (f : Fin 512), j = ix2 t f := ⟨j 0, j 1, eq_ix2 j⟩
  refine (outAt_apply m ρ h c t f).trans (Finset.sum_congr rfl fun e _ => ?_)
  refine congrArg₂ (fun a b => term (rows x) (routes r) (weights w) a b e) (Fin.ext ?_) (Fin.ext ?_)
  · exact congrArg (· + t.val) (Nat.mul_comm 256 c.val)
  · rfl
end

/-- From memories that hold the same arrays, cut over the devices, the two programs end with the same result, cut likewise. -/
theorem algebraic : Cert.algebraic_KernelIdeal_ReferenceIdeal := by
  intro m g m' g' _ same
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)),
    kernel_value m g ⟨fun c => ?_, fun c => ?_, fun c e => ?_⟩, (θ_run Cert.ReferenceIdeal.defs _ _).mono (fun _ h => h 0) (reference_value m' g')⟩
  · unfold devRows; rw [(same c).1]
  · unfold devRoutes; rw [(same c).2.2.1]
  · funext k f
    unfold devWeights
    rw [(same c).2.2.2]
    refine congrArg (m' (((0 : Dev Cert.ReferenceIdeal.nD).tc : Thread Cert.ReferenceIdeal.nD Cert.ReferenceIdeal.τ).loc Cert.ReferenceIdeal.main_arg3)) (funext fun a => Fin.ext ?_)
    fin_cases a
    · exact congrArg (· + e.val) (Nat.mul_comm c.val 4)
    · rfl
    · rfl

end Cert.Experts

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Frames
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨Cert.Experts.frame_kernel, Cert.Experts.frame_ideal, Cert.Experts.frame_reference, trivial, Cert.Experts.algebraic⟩⟩

end Cert.Proof

end
